-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1]⟩ ⟨2, ![2048, 1]⟩ (Layout.meshBlock [2, 2, 4] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![4, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![4, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x1024 : Shape := ⟨2, ![1024, 1024]⟩
abbrev S1024x1 : Shape := ⟨2, ![1024, 1]⟩
abbrev S2x1024x2048 : Shape := ⟨3, ![2, 1024, 2048]⟩
abbrev S2x2048x1024 : Shape := ⟨3, ![2, 2048, 1024]⟩
abbrev S_ : Shape := ⟨0, ![]⟩

class Facts : Prop where
  bcast_S_S1024x1 : S_.BroadcastsInDim S1024x1 (![] : Fin 0 → Fin S1024x1.rank)
  natLt_1_32 : 1 < 32
  reducesTo_S1024x1_S_d0_1 : S1024x1.ReducesTo [0, 1] S_
  h_S_ : 0 < S_.numel

variable [Facts]

def fn_part1 {F : FTy → Type} [FloatOps F] (main_arg1 : IVec S1024x1 32) (main_v4 : IVec S_ 1) (main_v9 : IVec S_ 1) (main_v14 : IVec S_ 1) : IVec S_ 1 :=
  let main_c_8 : IVec S_ 32 := constantI S_ 32 3#32
  let main_v15 : IVec S1024x1 32 := broadcastInDim S1024x1 ![] bcast_S_S1024x1 main_c_8
  let main_v16 : IVec S1024x1 1 := cmpi .eq main_arg1 main_v15
  let main_v17 : IVec S1024x1 32 := (extui 32 · natLt_1_32) main_v16
  let main_c_9 : IVec S_ 32 := constantI S_ 32 0#32
  let main_v18 : IVec S_ 32 := (fun x v => Host.reduce IntOp.addi x v reducesTo_S1024x1_S_d0_1 h_S_) main_v17 main_c_9
  let main_c_10 : IVec S_ 32 := constantI S_ 32 288#32
  let main_v19 : IVec S_ 1 := cmpi .sle main_v18 main_c_10
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S1024x1024 .f32) (main_arg1 : IVec S1024x1 32) (main_arg2 : FVec F S2x1024x2048 .f32) (main_arg3 : FVec F S2x2048x1024 .f32) : IVec S_ 1 :=
  let main_c : IVec S_ 32 := constantI S_ 32 0#32
  let main_v0 : IVec S1024x1 32 := broadcastInDim S1024x1 ![] bcast_S_S1024x1 main_c
  let main_v1 : IVec S1024x1 1 := cmpi .eq main_arg1 main_v0
  let main_v2 : IVec S1024x1 32 := (extui 32 · natLt_1_32) main_v1
  let main_c_0 : IVec S_ 32 := constantI S_ 32 0#32
  let main_v3 : IVec S_ 32 := (fun x v => Host.reduce IntOp.addi x v reducesTo_S1024x1_S_d0_1 h_S_) main_v2 main_c_0
  let main_c_1 : IVec S_ 32 := constantI S_ 32 288#32
  let main_v4 : IVec S_ 1 := cmpi .sle main_v3 main_c_1
  let main_c_2 : IVec S_ 32 := constantI S_ 32 1#32
  let main_v5 : IVec S1024x1 32 := broadcastInDim S1024x1 ![] bcast_S_S1024x1 main_c_2
  let main_v6 : IVec S1024x1 1 := cmpi .eq main_arg1 main_v5
  let main_v7 : IVec S1024x1 32 := (extui 32 · natLt_1_32) main_v6
  let main_c_3 : IVec S_ 32 := constantI S_ 32 0#32
  let main_v8 : IVec S_ 32 := (fun x v => Host.reduce IntOp.addi x v reducesTo_S1024x1_S_d0_1 h_S_) main_v7 main_c_3
  let main_c_4 : IVec S_ 32 := constantI S_ 32 288#32
  let main_v9 : IVec S_ 1 := cmpi .sle main_v8 main_c_4
  let main_c_5 : IVec S_ 32 := constantI S_ 32 2#32
  let main_v10 : IVec S1024x1 32 := broadcastInDim S1024x1 ![] bcast_S_S1024x1 main_c_5
  let main_v11 : IVec S1024x1 1 := cmpi .eq main_arg1 main_v10
  let main_v12 : IVec S1024x1 32 := (extui 32 · natLt_1_32) main_v11
  let main_c_6 : IVec S_ 32 := constantI S_ 32 0#32
  let main_v13 : IVec S_ 32 := (fun x v => Host.reduce IntOp.addi x v reducesTo_S1024x1_S_d0_1 h_S_) main_v12 main_c_6
  let main_c_7 : IVec S_ 32 := constantI S_ 32 288#32
  let main_v14 : IVec S_ 1 := cmpi .sle main_v13 main_c_7
  fn_part1 (F := F) main_arg1 main_v4 main_v9 main_v14
-- ==== Pre_fits_ReferenceIdeal.lean ====
abbrev S2048x1024 : Shape := ⟨2, ![2048, 1024]⟩
abbrev S2048x1 : Shape := ⟨2, ![2048, 1]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S2048x1 : S_.BroadcastsInDim S2048x1 (![] : Fin 0 → Fin S2048x1.rank)
  natLt_1_32 : 1 < 32
  reducesTo_S2048x1_S_d0_1 : S2048x1.ReducesTo [0, 1] S_
  h_S_ : 0 < S_.numel

variable [Facts]

def fn_part1 {F : FTy → Type} [FloatOps F] (main_arg1 : IVec S2048x1 32) (main_v4 : IVec S_ 1) (main_v9 : IVec S_ 1) (main_v14 : IVec S_ 1) : IVec S_ 1 :=
  let main_c_8 : IVec S_ 32 := constantI S_ 32 3#32
  let main_v15 : IVec S2048x1 32 := broadcastInDim S2048x1 ![] bcast_S_S2048x1 main_c_8
  let main_v16 : IVec S2048x1 1 := cmpi .eq main_arg1 main_v15
  let main_v17 : IVec S2048x1 32 := (extui 32 · natLt_1_32) main_v16
  let main_c_9 : IVec S_ 32 := constantI S_ 32 0#32
  let main_v18 : IVec S_ 32 := (fun x v => Host.reduce IntOp.addi x v reducesTo_S2048x1_S_d0_1 h_S_) main_v17 main_c_9
  let main_c_10 : IVec S_ 32 := constantI S_ 32 288#32
  let main_v19 : IVec S_ 1 := cmpi .sle main_v18 main_c_10
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S2048x1024 .f32) (main_arg1 : IVec S2048x1 32) (main_arg2 : FVec F S4x1024x2048 .f32) (main_arg3 : FVec F S4x2048x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .eq main_arg1 main_v0
  let main_v2 : IVec S2048x1 32 := (extui 32 · natLt_1_32) main_v1
  let main_c_0 : IVec S_ 32 := constantI S_ 32 0#32
  let main_v3 : IVec S_ 32 := (fun x v => Host.reduce IntOp.addi x v reducesTo_S2048x1_S_d0_1 h_S_) main_v2 main_c_0
  let main_c_1 : IVec S_ 32 := constantI S_ 32 288#32
  let main_v4 : IVec S_ 1 := cmpi .sle main_v3 main_c_1
  let main_c_2 : IVec S_ 32 := constantI S_ 32 1#32
  let main_v5 : IVec S2048x1 32 := broadcastInDim S2048x1 ![] bcast_S_S2048x1 main_c_2
  let main_v6 : IVec S2048x1 1 := cmpi .eq main_arg1 main_v5
  let main_v7 : IVec S2048x1 32 := (extui 32 · natLt_1_32) main_v6
  let main_c_3 : IVec S_ 32 := constantI S_ 32 0#32
  let main_v8 : IVec S_ 32 := (fun x v => Host.reduce IntOp.addi x v reducesTo_S2048x1_S_d0_1 h_S_) main_v7 main_c_3
  let main_c_4 : IVec S_ 32 := constantI S_ 32 288#32
  let main_v9 : IVec S_ 1 := cmpi .sle main_v8 main_c_4
  let main_c_5 : IVec S_ 32 := constantI S_ 32 2#32
  let main_v10 : IVec S2048x1 32 := broadcastInDim S2048x1 ![] bcast_S_S2048x1 main_c_5
  let main_v11 : IVec S2048x1 1 := cmpi .eq main_arg1 main_v10
  let main_v12 : IVec S2048x1 32 := (extui 32 · natLt_1_32) main_v11
  let main_c_6 : IVec S_ 32 := constantI S_ 32 0#32
  let main_v13 : IVec S_ 32 := (fun x v => Host.reduce IntOp.addi x v reducesTo_S2048x1_S_d0_1 h_S_) main_v12 main_c_6
  let main_c_7 : IVec S_ 32 := constantI S_ 32 288#32
  let main_v14 : IVec S_ 1 := cmpi .sle main_v13 main_c_7
  fn_part1 (F := F) main_arg1 main_v4 main_v9 main_v14
-- ==== Kernel.lean ====
abbrev S1024x1024 : Shape := ⟨2, ![1024, 1024]⟩
abbrev S1024x1 : Shape := ⟨2, ![1024, 1]⟩
abbrev S2x1024x2048 : Shape := ⟨3, ![2, 1024, 2048]⟩
abbrev S2x2048x1024 : Shape := ⟨3, ![2, 2048, 1024]⟩
abbrev S576x1024 : Shape := ⟨2, ![576, 1024]⟩
abbrev S1024x2048 : Shape := ⟨2, ![1024, 2048]⟩
abbrev S2048x1024 : Shape := ⟨2, ![2048, 1024]⟩
abbrev S6 : Shape := ⟨1, ![6]⟩
abbrev S4 : Shape := ⟨1, ![4]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S1024x4 : Shape := ⟨2, ![1024, 4]⟩
abbrev S1024x288 : Shape := ⟨2, ![1024, 288]⟩
abbrev S288x1024 : Shape := ⟨2, ![288, 1024]⟩
abbrev S576x2048 : Shape := ⟨2, ![576, 2048]⟩
abbrev S288x2048 : Shape := ⟨2, ![288, 2048]⟩
abbrev S144x2048 : Shape := ⟨2, ![144, 2048]⟩
abbrev S144x1024 : Shape := ⟨2, ![144, 1024]⟩
abbrev S1024x144 : Shape := ⟨2, ![1024, 144]⟩

abbrev nBuf : Space → Nat
  | .hbm => 5
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x1, .i32⟩
  | .hbm, ⟨2, _⟩ => ⟨S2x1024x2048, .f32⟩
  | .hbm, ⟨3, _⟩ => ⟨S2x2048x1024, .f32⟩
  | .hbm, ⟨4, _⟩ => ⟨S1024x1024, .bf16⟩
  | .local _ .vmem, ⟨0, _⟩ => ⟨S1024x1024, .f32⟩
  | .local _ .vmem, ⟨1, _⟩ => ⟨S1024x1, .i32⟩
  | .local _ .vmem, ⟨2, _⟩ => ⟨S1024x1024, .bf16⟩
  | .local _ .vmem, ⟨3, _⟩ => ⟨S576x1024, .bf16⟩
  | .local _ .vmem, ⟨4, _⟩ => ⟨S576x1024, .bf16⟩
  | .local _ .vmem, ⟨5, _⟩ => ⟨S576x1024, .bf16⟩
  | .local _ .vmem, ⟨6, _⟩ => ⟨S576x1024, .bf16⟩
  | .local _ .vmem, ⟨7, _⟩ => ⟨S576x1024, .bf16⟩
  | .local _ .vmem, ⟨8, _⟩ => ⟨S1024x2048, .f32⟩
  | .local _ .vmem, ⟨9, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v19 : BitVec 32 := Scalar.muli v2 c8_i32_11
  let v20 : BitVec 32 := Scalar.addi c0_i32_12 v19
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_13 : BitVec 32 := 4#32
  let v21 : BitVec 32 := Scalar.muli v6 c4_i32_13
  let v22 : BitVec 32 := Scalar.addi v20 v21
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_14 : BitVec 32 := 1#32
  let v23 : BitVec 32 := Scalar.muli v9 c1_i32_14
  let v24 : BitVec 32 := Scalar.addi v22 v23
  v24.toNat
def k0_dev2 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v76 : BitVec 32 := Scalar.muli v2 c8_i32_32
  let v77 : BitVec 32 := Scalar.addi c0_i32_33 v76
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_34 : BitVec 32 := 4#32
  let v78 : BitVec 32 := Scalar.muli v6 c4_i32_34
  let v79 : BitVec 32 := Scalar.addi v77 v78
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_35 : BitVec 32 := 1#32
  let v80 : BitVec 32 := Scalar.muli v9 c1_i32_35
  let v81 : BitVec 32 := Scalar.addi v79 v80
  v81.toNat
def k0_dev3 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v102 : BitVec 32 := Scalar.muli v2 c8_i32_44
  let v103 : BitVec 32 := Scalar.addi c0_i32_45 v102
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_46 : BitVec 32 := 4#32
  let v104 : BitVec 32 := Scalar.muli v6 c4_i32_46
  let v105 : BitVec 32 := Scalar.addi v103 v104
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_47 : BitVec 32 := 1#32
  let v106 : BitVec 32 := Scalar.muli v9 c1_i32_47
  let v107 : BitVec 32 := Scalar.addi v105 v106
  v107.toNat
def k0_dev4 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v177 : BitVec 32 := Scalar.muli v2 c8_i32_100
  let v178 : BitVec 32 := Scalar.addi c0_i32_101 v177
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_102 : BitVec 32 := 4#32
  let v179 : BitVec 32 := Scalar.muli v6 c4_i32_102
  let v180 : BitVec 32 := Scalar.addi v178 v179
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_103 : BitVec 32 := 1#32
  let v181 : BitVec 32 := Scalar.muli v9 c1_i32_103
  let v182 : BitVec 32 := Scalar.addi v180 v181
  v182.toNat
def k0_dev5 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v195 : BitVec 32 := Scalar.muli v2 c8_i32_112
  let v196 : BitVec 32 := Scalar.addi c0_i32_113 v195
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_114 : BitVec 32 := 4#32
  let v197 : BitVec 32 := Scalar.muli v6 c4_i32_114
  let v198 : BitVec 32 := Scalar.addi v196 v197
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_115 : BitVec 32 := 1#32
  let v199 : BitVec 32 := Scalar.muli v9 c1_i32_115
  let v200 : BitVec 32 := Scalar.addi v198 v199
  v200.toNat
def k0_dev6 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v262 : BitVec 32 := Scalar.muli v2 c8_i32_161
  let v263 : BitVec 32 := Scalar.addi c0_i32_162 v262
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_163 : BitVec 32 := 4#32
  let v264 : BitVec 32 := Scalar.muli v6 c4_i32_163
  let v265 : BitVec 32 := Scalar.addi v263 v264
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_164 : BitVec 32 := 1#32
  let v266 : BitVec 32 := Scalar.muli v9 c1_i32_164
  let v267 : BitVec 32 := Scalar.addi v265 v266
  v267.toNat
def k0_dev7 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v280 : BitVec 32 := Scalar.muli v2 c8_i32_172
  let v281 : BitVec 32 := Scalar.addi c0_i32_173 v280
  let c1_i32 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v6 : BitVec 32 := Scalar.subi c1_i32 v5
  let c4_i32_174 : BitVec 32 := 4#32
  let v282 : BitVec 32 := Scalar.muli v6 c4_i32_174
  let v283 : BitVec 32 := Scalar.addi v281 v282
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_175 : BitVec 32 := 1#32
  let v284 : BitVec 32 := Scalar.muli v9 c1_i32_175
  let v285 : BitVec 32 := Scalar.addi v283 v284
  v285.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x1 : Shape := ⟨2, ![2048, 1]⟩
abbrev S4x1024x2048 : Shape := ⟨3, ![4, 1024, 2048]⟩
abbrev S4x2048x1024 : Shape := ⟨3, ![4, 2048, 1024]⟩
abbrev S_ : Shape := ⟨0, ![]⟩
abbrev S1x1024x2048 : Shape := ⟨3, ![1, 1024, 2048]⟩
abbrev S1024x2048 : Shape := ⟨2, ![1024, 2048]⟩
abbrev S2048x2048 : Shape := ⟨2, ![2048, 2048]⟩
abbrev S1x2048x1024 : Shape := ⟨3, ![1, 2048, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S4x1024x2048, .f32⟩
  | .hbm, ⟨3, _⟩ => ⟨S4x2048x1024, .f32⟩
  | .hbm, ⟨4, _⟩ => ⟨S_, .f32⟩
  | .hbm, ⟨5, _⟩ => ⟨S2048x1024, .f32⟩
  | .hbm, ⟨6, _⟩ => ⟨S1x1024x2048, .f32⟩
  | .hbm, ⟨7, _⟩ => ⟨S1024x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x2048x1024, .f32⟩
  | .hbm, ⟨16, _⟩ => ⟨S2048x1024, .f32⟩
  | .hbm, ⟨17, _⟩ => ⟨S2048x1024, .f32⟩
  | .hbm, ⟨18, _⟩ => ⟨S2048x1024, .i1⟩
  | .hbm, ⟨19, _⟩ => ⟨S2048x1024, .f32⟩
  | .hbm, ⟨20, _⟩ => ⟨S1x1024x2048, .f32⟩
  | .hbm, ⟨21, _⟩ => ⟨S1024x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S1x2048x1024, .f32⟩
  | .hbm, ⟨30, _⟩ => ⟨S2048x1024, .f32⟩
  | .hbm, ⟨31, _⟩ => ⟨S2048x1024, .f32⟩
  | .hbm, ⟨32, _⟩ => ⟨S2048x1024, .i1⟩
  | .hbm, ⟨33, _⟩ => ⟨S2048x1024, .f32⟩
  | .hbm, ⟨34, _⟩ => ⟨S1x1024x2048, .f32⟩
  | .hbm, ⟨35, _⟩ => ⟨S1024x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S1x2048x1024, .f32⟩
  | .hbm, ⟨44, _⟩ => ⟨S2048x1024, .f32⟩
  | .hbm, ⟨45, _⟩ => ⟨S2048x1024, .f32⟩
  | .hbm, ⟨46, _⟩ => ⟨S2048x1024, .i1⟩
  | .hbm, ⟨47, _⟩ => ⟨S2048x1024, .f32⟩
  | .hbm, ⟨48, _⟩ => ⟨S1x1024x2048, .f32⟩
  | .hbm, ⟨49, _⟩ => ⟨S1024x2048, .f32⟩
  | .hbm, ⟨50, _⟩ => ⟨S2048x2048, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S_, .i32⟩
  | .hbm, ⟨55, _⟩ => ⟨S2048x1, .i32⟩
  | .hbm, ⟨56, _⟩ => ⟨S2048x1, .i1⟩
  | .hbm, ⟨57, _⟩ => ⟨S1x2048x1024, .f32⟩
  | .hbm, ⟨58, _⟩ => ⟨S2048x1024, .f32⟩
  | .hbm, ⟨59, _⟩ => ⟨S2048x1024, .f32⟩
  | .hbm, ⟨60, _⟩ => ⟨S2048x1024, .i1⟩
  | .hbm, ⟨61, _⟩ => ⟨S2048x1024, .f32⟩
  | .hbm, ⟨62, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call2_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call3_v0 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.Protocol.lean ====
/-
# The exchange between a device and its peer

Device `c` of the 2 by 2 by 4 mesh works with the device that differs from it in the second coordinate only, its
PEER. Both run the same program:

* each signals the other's barrier semaphore one unit and waits for one unit on its own. The signal hands over the
  signaller's two halves of `xrecv` and four quarters of `rrecv`, the places the other will copy into;
* transfers 0 and 1 carry the halves of `xsend` (tokens bound for the peer's two experts) into the peer's `xrecv`;
* transfers 2 to 5 carry the quarters of `rsend` (the results of the tokens that came) into the peer's `rrecv`;
* four copies within the device bring its two experts' weights from `W1` and `W2` into `s1` and `s2`.

Every semaphore is raised once and waited for once, so each of its cells has one round of one duty. The cells are
numbered: 0 the barrier, `1 + k` the departure of transfer `k`, `7 + k` its arrival, `13 + l` the local copy `l`.
The payload of an arrival states the CONTENTS that land, as a function of the memory at launch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy of the rounds and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peer -/

set_option backward.proofsInPublic true in
/-- The device that differs from `c` in the second coordinate of the mesh. -/
def peer (c : Dev nD) : Dev nD := ⟨8 * (c.val / 8) + 4 * (1 - c.val / 4 % 2) + c.val % 4, by have := c.isLt; simp only [nD] at *; omega⟩

theorem peer_peer (c : Dev nD) : peer (peer c) = c := by revert c; decide

/-- Pairing with the peer, as a permutation of the devices. -/
def swap : Dev nD ≃ Dev nD := ⟨peer, peer, peer_peer, peer_peer⟩

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide
theorem dev7_eq (c : Dev nD) : (⟨k0_dev7 c, k0_dev7_lt c⟩ : Dev nD) = peer c := by revert c; decide

/-! ## The memrefs -/

abbrev xM : Memref sig .tc .vmem S1024x1024 .f32 := Memref.whole cc0_stg0_0
abbrev aM : Memref sig .tc .vmem S1024x1 .i32 := Memref.whole cc0_stg1_0
abbrev oM : Memref sig .tc .vmem S1024x1024 .bf16 := Memref.whole cc0_stg2_0
abbrev w1A : Memref sig .tc .hbm S2x1024x2048 .f32 := Memref.whole main_arg2
abbrev w2A : Memref sig .tc .hbm S2x2048x1024 .f32 := Memref.whole main_arg3
abbrev xsB : Memref sig .tc .vmem S576x1024 .bf16 := Memref.whole cc0_scratch0
abbrev xrB : Memref sig .tc .vmem S576x1024 .bf16 := Memref.whole cc0_scratch1
abbrev roB : Memref sig .tc .vmem S576x1024 .bf16 := Memref.whole cc0_scratch2
abbrev rsB : Memref sig .tc .vmem S576x1024 .bf16 := Memref.whole cc0_scratch3
abbrev rrB : Memref sig .tc .vmem S576x1024 .bf16 := Memref.whole cc0_scratch4
abbrev s1M : Memref sig .tc .vmem S1024x2048 .f32 := Memref.whole cc0_scratch5
abbrev s2M : Memref sig .tc .vmem S2048x1024 .f32 := Memref.whole cc0_scratch6

/-- The halves and the quarters of a buffer of 576 rows. -/
abbrev half0 : Rect S576x1024 := Rect.unit (s := S576x1024) ![0, 0] S288x1024.size inb_S576x1024_S288x1024_0_0
abbrev half1 : Rect S576x1024 := Rect.unit (s := S576x1024) ![288, 0] S288x1024.size inb_S576x1024_S288x1024_288_0
abbrev quar0 : Rect S576x1024 := Rect.unit (s := S576x1024) ![0, 0] S144x1024.size inb_S576x1024_S144x1024_0_0
abbrev quar1 : Rect S576x1024 := Rect.unit (s := S576x1024) ![144, 0] S144x1024.size inb_S576x1024_S144x1024_144_0
abbrev quar2 : Rect S576x1024 := Rect.unit (s := S576x1024) ![288, 0] S144x1024.size inb_S576x1024_S144x1024_288_0
abbrev quar3 : Rect S576x1024 := Rect.unit (s := S576x1024) ![432, 0] S144x1024.size inb_S576x1024_S144x1024_432_0

abbrev xs0 : Memref sig .tc .vmem S288x1024 .bf16 := xsB.slice half0 (fun _ => rfl)
abbrev xs1 : Memref sig .tc .vmem S288x1024 .bf16 := xsB.slice half1 (fun _ => rfl)
abbrev xr0 : Memref sig .tc .vmem S288x1024 .bf16 := xrB.slice half0 (fun _ => rfl)
abbrev xr1 : Memref sig .tc .vmem S288x1024 .bf16 := xrB.slice half1 (fun _ => rfl)
abbrev ro0 : Memref sig .tc .vmem S288x1024 .bf16 := roB.slice half0 (fun _ => rfl)
abbrev ro1 : Memref sig .tc .vmem S288x1024 .bf16 := roB.slice half1 (fun _ => rfl)
abbrev rs0 : Memref sig .tc .vmem S144x1024 .bf16 := rsB.slice quar0 (fun _ => rfl)
abbrev rs1 : Memref sig .tc .vmem S144x1024 .bf16 := rsB.slice quar1 (fun _ => rfl)
abbrev rs2 : Memref sig .tc .vmem S144x1024 .bf16 := rsB.slice quar2 (fun _ => rfl)
abbrev rs3 : Memref sig .tc .vmem S144x1024 .bf16 := rsB.slice quar3 (fun _ => rfl)
abbrev rr0 : Memref sig .tc .vmem S144x1024 .bf16 := rrB.slice quar0 (fun _ => rfl)
abbrev rr1 : Memref sig .tc .vmem S144x1024 .bf16 := rrB.slice quar1 (fun _ => rfl)
abbrev rr2 : Memref sig .tc .vmem S144x1024 .bf16 := rrB.slice quar2 (fun _ => rfl)
abbrev rr3 : Memref sig .tc .vmem S144x1024 .bf16 := rrB.slice quar3 (fun _ => rfl)

/-- The two experts' weights, as the copies name them. -/
abbrev w10 : Memref sig .tc .hbm S1024x2048 .f32 :=
  (w1A.slice (Rect.unit (s := S2x1024x2048) ![0, 0, 0] S1x1024x2048.size inb_S2x1024x2048_S1x1024x2048_0_0_0) (fun _ => rfl)).squeeze S1024x2048 squeezes_S1x1024x2048_S1024x2048
abbrev w11 : Memref sig .tc .hbm S1024x2048 .f32 :=
  (w1A.slice (Rect.unit (s := S2x1024x2048) ![1, 0, 0] S1x1024x2048.size inb_S2x1024x2048_S1x1024x2048_1_0_0) (fun _ => rfl)).squeeze S1024x2048 squeezes_S1x1024x2048_S1024x2048
abbrev w20 : Memref sig .tc .hbm S2048x1024 .f32 :=
  (w2A.slice (Rect.unit (s := S2x2048x1024) ![0, 0, 0] S1x2048x1024.size inb_S2x2048x1024_S1x2048x1024_0_0_0) (fun _ => rfl)).squeeze S2048x1024 squeezes_S1x2048x1024_S2048x1024
abbrev w21 : Memref sig .tc .hbm S2048x1024 .f32 :=
  (w2A.slice (Rect.unit (s := S2x2048x1024) ![1, 0, 0] S1x2048x1024.size inb_S2x2048x1024_S1x2048x1024_1_0_0) (fun _ => rfl)).squeeze S2048x1024 squeezes_S1x2048x1024_S2048x1024

/-! ## The semaphores -/

abbrev barS : Sem sig := (SemArray.scalar (sig.barrier 0 rfl) : Sems sig S_).sem
abbrev sd0 : DmaSem sig := ((cc0_scratch7.slice (Rect.unit (s := S6) ![0] S1.size inb_S6_S1_0)).squeeze S_ squeezes_S1_S_).sem
abbrev sd1 : DmaSem sig := ((cc0_scratch7.slice (Rect.unit (s := S6) ![1] S1.size inb_S6_S1_1)).squeeze S_ squeezes_S1_S_).sem
abbrev sd2 : DmaSem sig := ((cc0_scratch7.slice (Rect.unit (s := S6) ![2] S1.size inb_S6_S1_2)).squeeze S_ squeezes_S1_S_).sem
abbrev sd3 : DmaSem sig := ((cc0_scratch7.slice (Rect.unit (s := S6) ![3] S1.size inb_S6_S1_3)).squeeze S_ squeezes_S1_S_).sem
abbrev sd4 : DmaSem sig := ((cc0_scratch7.slice (Rect.unit (s := S6) ![4] S1.size inb_S6_S1_4)).squeeze S_ squeezes_S1_S_).sem
abbrev sd5 : DmaSem sig := ((cc0_scratch7.slice (Rect.unit (s := S6) ![5] S1.size inb_S6_S1_5)).squeeze S_ squeezes_S1_S_).sem
abbrev rv0 : DmaSem sig := ((cc0_scratch8.slice (Rect.unit (s := S6) ![0] S1.size inb_S6_S1_0)).squeeze S_ squeezes_S1_S_).sem
abbrev rv1 : DmaSem sig := ((cc0_scratch8.slice (Rect.unit (s := S6) ![1] S1.size inb_S6_S1_1)).squeeze S_ squeezes_S1_S_).sem
abbrev rv2 : DmaSem sig := ((cc0_scratch8.slice (Rect.unit (s := S6) ![2] S1.size inb_S6_S1_2)).squeeze S_ squeezes_S1_S_).sem
abbrev rv3 : DmaSem sig := ((cc0_scratch8.slice (Rect.unit (s := S6) ![3] S1.size inb_S6_S1_3)).squeeze S_ squeezes_S1_S_).sem
abbrev rv4 : DmaSem sig := ((cc0_scratch8.slice (Rect.unit (s := S6) ![4] S1.size inb_S6_S1_4)).squeeze S_ squeezes_S1_S_).sem
abbrev rv5 : DmaSem sig := ((cc0_scratch8.slice (Rect.unit (s := S6) ![5] S1.size inb_S6_S1_5)).squeeze S_ squeezes_S1_S_).sem
abbrev lc0 : DmaSem sig := ((cc0_scratch9.slice (Rect.unit (s := S4) ![0] S1.size inb_S4_S1_0)).squeeze S_ squeezes_S1_S_).sem
abbrev lc1 : DmaSem sig := ((cc0_scratch9.slice (Rect.unit (s := S4) ![1] S1.size inb_S4_S1_1)).squeeze S_ squeezes_S1_S_).sem
abbrev lc2 : DmaSem sig := ((cc0_scratch9.slice (Rect.unit (s := S4) ![2] S1.size inb_S4_S1_2)).squeeze S_ squeezes_S1_S_).sem
abbrev lc3 : DmaSem sig := ((cc0_scratch9.slice (Rect.unit (s := S4) ![3] S1.size inb_S4_S1_3)).squeeze S_ squeezes_S1_S_).sem

/-- The scoped semaphores of the exchange, in the order of the cells 1 to 16. -/
abbrev osem : Fin 16 → SemLoc sig :=
  ![.dma sd0, .dma sd1, .dma sd2, .dma sd3, .dma sd4, .dma sd5,
    .dma rv0, .dma rv1, .dma rv2, .dma rv3, .dma rv4, .dma rv5, .dma lc0, .dma lc1, .dma lc2, .dma lc3]

/-- The cells' semaphores: the barrier, then the sixteen scoped ones. -/
abbrev csem : Fin 17 → SemLoc sig :=
  ![.reg barS, .dma sd0, .dma sd1, .dma sd2, .dma sd3, .dma sd4, .dma sd5,
    .dma rv0, .dma rv1, .dma rv2, .dma rv3, .dma rv4, .dma rv5, .dma lc0, .dma lc1, .dma lc2, .dma lc3]

abbrev kcell (ck : Dev nD × Fin 17) : GSem nD τ sig := ((ck.1 : Thread nD τ), csem ck.2)

theorem csem_injective : Function.Injective csem := by decide

/-- The units that a cell's one duty pays. -/
def amt : Fin 17 → ℕ :=
  ![1, xs0.view.dmaCredit, xs1.view.dmaCredit, rs0.view.dmaCredit, rs1.view.dmaCredit, rs2.view.dmaCredit, rs3.view.dmaCredit,
    xr0.view.dmaCredit, xr1.view.dmaCredit, rr0.view.dmaCredit, rr1.view.dmaCredit, rr2.view.dmaCredit, rr3.view.dmaCredit,
    s1M.view.dmaCredit, s2M.view.dmaCredit, s1M.view.dmaCredit, s2M.view.dmaCredit]

theorem amt_pos (k : Fin 17) : 0 < amt k := by
  fin_cases k
  · exact Nat.one_pos
  all_goals exact View.dmaCredit_pos _ (by decide)

/-! ## The values of a run, as functions of the memory at launch -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

section Values
variable (c : Dev nD)

/-- Device `c`'s tokens and their experts, as the pipeline stages them. -/
def xin : Vec F S1024x1024 .f32 := (win0_0.blk (0 : Fin 1)).view.read (Elt F) (m ((c : Thread nD τ).loc main_arg0))
def ain : Vec F S1024x1 .i32 := (win0_1.blk (0 : Fin 1)).view.read (Elt F) (m ((c : Thread nD τ).loc main_arg1))
/-- Its weights: of its first and of its second expert. -/
def wA0 : Vec F S1024x2048 .f32 := w10.view.read (Elt F) (m ((c : Thread nD τ).loc main_arg2))
def wB0 : Vec F S2048x1024 .f32 := w20.view.read (Elt F) (m ((c : Thread nD τ).loc main_arg3))
def wA1 : Vec F S1024x2048 .f32 := w11.view.read (Elt F) (m ((c : Thread nD τ).loc main_arg2))
def wB1 : Vec F S2048x1024 .f32 := w21.view.read (Elt F) (m ((c : Thread nD τ).loc main_arg3))

def dword : BitVec 32 := Dev.word c
def xb : FVec F S1024x1024 .bf16 := k0_pay1 (xin m c)
/-- One column per expert: who is assigned to it, and its tokens' places in the buffers. -/
def hot : FVec F S1024x4 .bf16 := k0_pay2 (dword c) 2#32 4#32 (ain m c)
def place : IVec S1024x4 32 := k0_pay3 (F := F) (dword c) 2#32 4#32 (ain m c)
def slots : IVec S1024x288 32 := iota .tc S1024x288 32 [1] iota_S1024x288_d1_w32

/-- The two blocks of tokens `c` sends. -/
def toks0 : Vec F S288x1024 .bf16 := k0_pay4 (xb m c) (dword c) 2#32 4#32 (ain m c)
def toks1 : Vec F S288x1024 .bf16 := k0_pay5 (xb m c) (hot m c) (place m c) slots

def up0 : FVec F S1024x2048 .bf16 := k0_pay6 (wA0 m c)
def dn0 : FVec F S2048x1024 .bf16 := k0_pay7 (wB0 m c)
def up1 : FVec F S1024x2048 .bf16 := k0_pay14 (wA1 m c)
def dn1 : FVec F S2048x1024 .bf16 := k0_pay15 (wB1 m c)
/-- Which of `c`'s own tokens sit in which slot of its first and of its second expert. -/
def own0 : FVec F S1024x288 .bf16 := k0_pay8 (hot m c) (place m c) slots
def own1 : FVec F S1024x288 .bf16 := k0_pay16 (hot m c) (place m c) slots

def hid0 : FVec F S576x2048 .bf16 := k0_pay9 (xb m c) (up0 m c) (own0 m c) (toks0 m (peer c))
def hid1 : FVec F S576x2048 .bf16 := k0_pay17 (xb m c) (up1 m c) (own1 m c) (toks1 m (peer c))
/-- The results of `c`'s own tokens at its two experts. -/
def home0 : Vec F S288x1024 .bf16 := k0_pay10 (xb m c) (up0 m c) (dn0 m c) (own0 m c) (toks0 m (peer c))
def home1 : Vec F S288x1024 .bf16 := k0_pay18 (xb m c) (up1 m c) (dn1 m c) (own1 m c) (toks1 m (peer c))
/-- The results `c` sends back, two quarters to an expert. -/
def back0 : Vec F S144x1024 .bf16 := k0_pay12 (k0_pay11 (xb m c) (up0 m c) (dn0 m c) (own0 m c) (toks0 m (peer c)))
def back1 : Vec F S144x1024 .bf16 := k0_pay13 (dn0 m c) (hid0 m c)
def back2 : Vec F S144x1024 .bf16 := k0_pay19 (xb m c) (up1 m c) (dn1 m c) (own1 m c) (toks1 m (peer c))
def back3 : Vec F S144x1024 .bf16 := k0_pay20 (dn1 m c) (hid1 m c)

/-- The sum over `c`'s own experts, then over the peer's, quarter by quarter. -/
def acc0 : FVec F S1024x1024 .f32 := k0_pay21 (own0 m c) (own1 m c) (home0 m c) (home1 m c)
def far0 : FVec F S1024x288 .bf16 := k0_pay22 (hot m c) (place m c) slots
def far1 : FVec F S1024x288 .bf16 := k0_pay24 (hot m c) (k0_pay23 (place m c) slots)
def acc1 : FVec F S1024x1024 .f32 := k0_pay25 (acc0 m c) (far0 m c) (back0 m (peer c))
def acc2 : FVec F S1024x1024 .f32 := k0_pay26 (far0 m c) (acc1 m c) (back1 m (peer c))
/-- The block that `c` leaves in the result. -/
def outv : Vec F S1024x1024 .bf16 := k0_pay28 (far1 m c) (acc2 m c) (k0_pay27 (far1 m c)) (back2 m (peer c)) (back3 m (peer c))

end Values

/-! ## What each cell hands over -/

/-- Memref `M` of device `c`, its elements owned, reading `X`. -/
abbrev holds (c : Dev nD) {sp : Space} {sh : Shape} {e : EltTy} (M : Memref sig .tc sp sh e) (X : sh.Idx → Elt F e) : sProp 𝕄 :=
  owns (Ix := Unit) (Name := ℕ) (U := UU) (Lvl := ℕ) (c : Thread nD τ) M fullShare X

/-- The same at some contents. -/
def free (c : Dev nD) {sp : Space} {sh : Shape} {e : EltTy} (M : Memref sig .tc sp sh e) : sProp 𝕄 :=
  iprop(∃ f : Buf (Elt F) (M.view.loc (c : Thread nD τ)), M.view.loc (c : Thread nD τ) ↦[M.view.set]{fullShare} f)

/-- An expert's weights in `W1` or `W2`, a part of the array as it was at launch. -/
def lentA (c : Dev nD) (M : Memref sig .tc .hbm S1024x2048 .f32) (f : Buf (Elt F) (M.view.loc (c : Thread nD τ))) : sProp 𝕄 :=
  M.view.loc (c : Thread nD τ) ↦[M.view.set]{fullShare} f
def lentB (c : Dev nD) (M : Memref sig .tc .hbm S2048x1024 .f32) (f : Buf (Elt F) (M.view.loc (c : Thread nD τ))) : sProp 𝕄 :=
  M.view.loc (c : Thread nD τ) ↦[M.view.set]{fullShare} f

omit [FloatOps F] in
instance free_storable (c : Dev nD) {sp : Space} {sh : Shape} {e : EltTy} (M : Memref sig .tc sp sh e) :
    BI.Storable (upEmb : UEmb _ 𝕄) (free (F := F) c M) := by unfold free; infer_instance
omit [FloatOps F] in
instance lentA_storable (c : Dev nD) (M) (f) : BI.Storable (upEmb : UEmb _ 𝕄) (lentA (F := F) c M f) := by unfold lentA; infer_instance
omit [FloatOps F] in
instance lentB_storable (c : Dev nD) (M) (f) : BI.Storable (upEmb : UEmb _ 𝕄) (lentB (F := F) c M f) := by unfold lentB; infer_instance

/-- The six landing places of device `c`. -/
def landings (c : Dev nD) : sProp 𝕄 :=
  iprop(free (F := F) c xr0 ∗ free (F := F) c xr1 ∗ free (F := F) c rr0 ∗ free (F := F) c rr1 ∗ free (F := F) c rr2 ∗ free (F := F) c rr3)

def barPay (c : Dev nD) : sProp 𝕄 := landings (F := F) (peer c)
def copyPay0 (c : Dev nD) : sProp 𝕄 := iprop(holds c s1M (wA0 m c) ∗ lentA c w10 (m ((c : Thread nD τ).loc main_arg2)))
def copyPay1 (c : Dev nD) : sProp 𝕄 := iprop(holds c s2M (wB0 m c) ∗ lentB c w20 (m ((c : Thread nD τ).loc main_arg3)))
def copyPay2 (c : Dev nD) : sProp 𝕄 := iprop(holds c s1M (wA1 m c) ∗ lentA c w11 (m ((c : Thread nD τ).loc main_arg2)))
def copyPay3 (c : Dev nD) : sProp 𝕄 := iprop(holds c s2M (wB1 m c) ∗ lentB c w21 (m ((c : Thread nD τ).loc main_arg3)))

/-- The barrier hands over the peer's landing places; a departure gives the sent piece back; an arrival brings what the
    peer sent; a local copy brings an expert's weights and gives their place in the array back. -/
def pay (c : Dev nD) : Fin 17 → sProp 𝕄 :=
  ![barPay (F := F) c,
    free (F := F) c xs0, free (F := F) c xs1, free (F := F) c rs0, free (F := F) c rs1, free (F := F) c rs2, free (F := F) c rs3,
    holds c xr0 (toks0 m (peer c)), holds c xr1 (toks1 m (peer c)),
    holds c rr0 (back0 m (peer c)), holds c rr1 (back1 m (peer c)), holds c rr2 (back2 m (peer c)), holds c rr3 (back3 m (peer c)),
    copyPay0 m c, copyPay1 m c, copyPay2 m c, copyPay3 m c]

instance pay_storable (c : Dev nD) (k : Fin 17) : BI.Storable (upEmb : UEmb _ 𝕄) (pay (F := F) m c k) := by
  fin_cases k
  · show BI.Storable upEmb (barPay (F := F) c); unfold barPay landings; infer_instance
  · exact free_storable c xs0
  · exact free_storable c xs1
  · exact free_storable c rs0
  · exact free_storable c rs1
  · exact free_storable c rs2
  · exact free_storable c rs3
  · show BI.Storable upEmb (holds c xr0 (toks0 m (peer c))); infer_instance
  · show BI.Storable upEmb (holds c xr1 (toks1 m (peer c))); infer_instance
  · show BI.Storable upEmb (holds c rr0 (back0 m (peer c))); infer_instance
  · show BI.Storable upEmb (holds c rr1 (back1 m (peer c))); infer_instance
  · show BI.Storable upEmb (holds c rr2 (back2 m (peer c))); infer_instance
  · show BI.Storable upEmb (holds c rr3 (back3 m (peer c))); infer_instance
  · show BI.Storable upEmb (copyPay0 m c); unfold copyPay0; infer_instance
  · show BI.Storable upEmb (copyPay1 m c); unfold copyPay1; infer_instance
  · show BI.Storable upEmb (copyPay2 m c); unfold copyPay2; infer_instance
  · show BI.Storable upEmb (copyPay3 m c); unfold copyPay3; infer_instance

/-! ## The schedule -/

/-- The number of the cell at semaphore `s`, if it is one of the exchange's. -/
def cellNo (s : SemLoc sig) : Option (Fin 17) := (List.finRange 17).find? fun k => csem k = s

theorem cellNo_csem (k : Fin 17) : cellNo (csem k) = some k := by revert k; decide

/-- One round of one duty at each of the cells. -/
def sched : Rounds.Schedule (GSem nD τ sig) Unit 𝕄 where
  duties g r := if r = 0 ∧ g.1.2 = .tc ∧ (cellNo g.2).isSome then {()} else ∅
  unitless _ := False
  amount g _ _ := ((cellNo g.2).map amt).getD 1
  payload g _ _ := match cellNo g.2 with
    | some k => pay m g.1.1 k
    | none => iprop(emp)
  amount_pos g _ _ _ := by
    cases h : cellNo g.2 with
    | none => exact Nat.one_pos
    | some k => exact amt_pos k

instance sched_storable (g : GSem nD τ sig) (r : ℕ) (d : Unit) :
    BI.Storable (upEmb : UEmb _ 𝕄) ((sched (F := F) m).payload g r d) := by
  show BI.Storable upEmb (match cellNo g.2 with | some k => pay m g.1.1 k | none => iprop(emp))
  split <;> infer_instance

section Tables
variable (c : Dev nD) (k : Fin 17)

theorem duties_cell : (sched (F := F) m).duties (kcell (c, k)) 0 = {()} := by
  dsimp only [sched]; exact if_pos ⟨rfl, rfl, by rw [cellNo_csem]; rfl⟩
theorem duties_later (g : GSem nD τ sig) : ∀ r, 1 ≤ r → (sched (F := F) m).duties g r = ∅ :=
  fun r hr => by dsimp only [sched]; rw [if_neg fun h => by omega]
theorem amount_cell (d : Unit) : (sched (F := F) m).amount (kcell (c, k)) 0 d = amt k := by
  dsimp only [sched]; rw [cellNo_csem]; rfl
theorem payload_cell (d : Unit) : (sched (F := F) m).payload (kcell (c, k)) 0 d = pay m c k := by
  dsimp only [sched]; rw [cellNo_csem]
theorem expect_cell : (sched (F := F) m).expect (kcell (c, k)) 0 = amt k := by
  unfold Schedule.expect Schedule.amountOf; rw [duties_cell, Finset.sum_singleton, amount_cell]
theorem rest_cell : bigSep ((sched (F := F) m).duties (kcell (c, k)) 0 \ ∅) (fun d => (sched (F := F) m).payload (kcell (c, k)) 0 d) = pay m c k := by
  rw [Finset.sdiff_empty, duties_cell, bigSep_singleton, payload_cell]
theorem mem_duties_cell : () ∈ (sched (F := F) m).duties (kcell (c, k)) 0 := by rw [duties_cell]; exact Finset.mem_singleton_self _

end Tables

/-! ## What a device owes, and the levels of the waits -/

/-- What device `c` owes when it has still to pay its peer's cells `l`, the first of them first. -/
def due (c : Dev nD) : List (Fin 17) → CellTallies nD τ sig Unit
  | [] => 0
  | k :: l => due c l + tallyAt (kcell (peer c, k)) () (amt k)

/-- At launch: the barrier's unit and the six arrivals. -/
abbrev dues₀ : List (Fin 17) := [0, 7, 8, 9, 10, 11, 12]

def L (g : GSem nD τ sig) : Finset Unit := if g.1.2 = .tc then {()} else ∅
/-- The arrivals of results above the arrivals of tokens, those above the barrier, all else at the bottom. -/
def lvl : Fin 17 → ℕ := ![1, 0, 0, 0, 0, 0, 0, 2, 2, 3, 3, 3, 3, 0, 0, 0, 0]
def lv (g : GSem nD τ sig) (_ : Unit) : ℕ := ((cellNo g.2).map lvl).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 17) (u : Unit) : lv (kcell (c, k)) u = lvl k := by
  unfold lv; rw [cellNo_csem]; rfl

theorem due_pos {c : Dev nD} {g : GSem nD τ sig} {u : Unit} : ∀ {l : List (Fin 17)}, 0 < due c l g u → ∃ k ∈ l, g = kcell (peer c, k)
  | [], h => absurd h (Nat.lt_irrefl 0)
  | k :: l, h => by
    by_cases hg : g = kcell (peer c, k)
    · exact ⟨k, List.mem_cons_self, hg⟩
    · unfold due at h
      rw [Pi.add_apply, Finsupp.add_apply, tallyAt_apply, if_neg (fun h' => hg h'.1), Nat.add_zero] at h
      obtain ⟨k', hk', e⟩ := due_pos h
      exact ⟨k', List.mem_cons_of_mem _ hk', e⟩

omit [FloatOps F] in
/-- A device may wait at a semaphore of a level below those of all the cells it has still to pay. -/
theorem mayWait_of (c : Dev nD) (s : SemLoc sig) (l : List (Fin 17)) (n : ℕ) (hs : lv ((c : Thread nD τ), s) () ≤ n) (h : ∀ k ∈ l, n < lvl k) :
    (levAts L lv : sProp 𝕄) ⊢ MayWait (c : Thread nD τ) s () (due c l) :=
  MayOwe.of_cut (L := L) (lev := lv) n
    (fun p hp => by rw [Finset.mem_singleton.mp hp, L_tc]; exact Finset.mem_singleton_self _)
    (fun g u hg => by obtain ⟨k, -, rfl⟩ := due_pos hg; rw [L_tc]; exact Finset.mem_singleton_self _)
    (fun p hp => by rw [Finset.mem_singleton.mp hp]; exact hs)
    (fun g u hg => by obtain ⟨k, hk, rfl⟩ := due_pos hg; rw [lv_cell]; exact h k hk)

end Cert.Exchange
end
-- ==== Proof.Rules.lean ====
/-
# The kernel's operations at the exchange's cells

One rule per kind of operation: a wait, a transfer to the peer, a copy within the device, the barrier's signal, and
loads and stores of a piece of a buffer. Each is the library's rule with the schedule's tables filled in. A wait also
closes its cell, for no cell is used twice.
-/
module

public import proofs.«01_k».proof.Proof.Protocol

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ)

abbrev 𝒱₀ : Variants := Variants.none

/-- The program's weakest precondition on device `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem runs_ret (c : Dev nD) {α : Type} (a : α) (Q : α → sProp 𝕄) : runs c (.ret a) Q = iprop(|={Set.univ}=> Q a) := wp_ret _ _ _ _ _

/-! ## The assertions -/

/-- What every device knows throughout: each cell's invariant, that its one round is open, and the levels. -/
def world : sProp 𝕄 :=
  iprop((bigSep Finset.univ fun ck : Dev nD × Fin 17 => cellInv ER (sched m) (K ck) (kcell ck))
    ∗ (bigSep Finset.univ fun ck : Dev nD × Fin 17 => reached ER (kcell ck) 0) ∗ levAts L lv)

instance world_persistent : BI.Persistent (world m K) := by unfold world; infer_instance

theorem world_inv (ck : Dev nD × Fin 17) : world m K ⊢ cellInv ER (sched m) (K ck) (kcell ck) := by
  unfold world; iintro ⟨H, -⟩
  iapply (show (bigSep Finset.univ fun ck : Dev nD × Fin 17 => cellInv ER (sched m) (K ck) (kcell ck)) ⊢ cellInv ER (sched m) (K ck) (kcell ck) from
    bigSep_elim (Finset.mem_univ ck))
  iexact H
theorem world_reached (ck : Dev nD × Fin 17) : world m K ⊢ (reached ER (kcell ck) 0 : sProp 𝕄) := by
  unfold world; iintro ⟨-, H, -⟩
  iapply (show (bigSep Finset.univ fun ck : Dev nD × Fin 17 => (reached ER (kcell ck) 0 : sProp 𝕄)) ⊢ reached ER (kcell ck) 0 from
    bigSep_elim (Finset.mem_univ ck))
  iexact H
theorem world_levels : world m K ⊢ (levAts L lv : sProp 𝕄) := by unfold world; iintro ⟨-, -, H⟩; iexact H

/-- Device `c` owes the cells `l` of its peer. -/
def owing (c : Dev nD) (l : List (Fin 17)) : sProp 𝕄 := iprop(∃ W, owes (c : Thread nD τ) (due c l) W)

/-- Cell `k` of device `c`, not yet paid: its position, and the token of the duty that `c` itself pays. -/
def armed (c : Dev nD) (k : Fin 17) : sProp 𝕄 := iprop(atPos ER (kcell (c, k)) 0 ∅ 0 ∗ dutyTok ER (kcell (c, k)) 0 ())
/-- The same with the credit for its wait. -/
def rdy (c : Dev nD) (k : Fin 17) : sProp 𝕄 := iprop(atPos ER (kcell (c, k)) 0 ∅ 0 ∗ cred (tallyAt (kcell (c, k)) () (amt k)))
/-- The same closed. -/
def closed (c : Dev nD) (k : Fin 17) : sProp 𝕄 := semVal (kcell (c, k)) 0
/-- The token of the duty that `c` pays at its peer's cell `k`. -/
def ticket (c : Dev nD) (k : Fin 17) : sProp 𝕄 := dutyTok ER (kcell (peer c, k)) 0 ()

/-! ## Waits -/

theorem world_mayWait (c : Dev nD) (k : Fin 17) (l : List (Fin 17)) (hl : ∀ k' ∈ l, lvl k < lvl k') :
    world m K ⊢ (MayWait (c : Thread nD τ) (csem k) () (due c l) : sProp 𝕄) := by
  have h : lv ((c : Thread nD τ), csem k) () ≤ lvl k := le_of_eq (lv_cell c k ())
  exact (world_levels m K).trans (mayWait_of c (csem k) l (lvl k) h hl)

/-- A wait at cell `k` for all it is paid: the payload comes, and the cell closes. -/
theorem wp_await (c : Dev nD) (k : Fin 17) (l : List (Fin 17)) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) (amt k) Kt)
    (hl : ∀ k' ∈ l, lvl k < lvl k') {α : Type} {Q : α → sProp 𝕄} {kt : PUnit → Prog (TpuEff nD τ sig (Elt F) Λ₀ .tc) α} :
    iprop(world m K ∗ rdy (F := F) c k ∗ owing (F := F) c l)
      ⊢ iprop(((pay m c k ∗ closed (F := F) c k ∗ owing (F := F) c l) -∗ runs c (kt ⟨⟩) Q) -∗ runs c (.op w kt) Q) := by
  unfold rdy owing closed
  iintro ⟨#Hw, ⟨Hat, Hc⟩, ⟨%W, HO⟩⟩ Hk
  ihave #HI := (world_inv m K (c, k)) $$ Hw
  iapply (Rounds.wp_wait_rest_token 𝒱₀ ER (sched m) (c : Thread nD τ) none (κ := K (c, k)) hw (Set.mem_univ _) () (O := due c l) (W := W)
      (R := 0) (m := 0) (T := ∅) (by rw [Nat.zero_add]; exact (expect_cell m c k).symm)) $$ [Hat Hc HO]
  · isplitr; · iexact HI
    isplitl [Hc]; · iexact Hc
    isplitl [HO]; · iexact HO
    isplitr
    · iapply (world_mayWait m K c k l hl); iexact Hw
    iexact Hat
  iintro ⟨HO, Hat, -, Hpay⟩
  ihave Hp := (Entails.of_eq (rest_cell m c k)) $$ Hpay
  imod (Rounds.cell_close ER (sched m) (g := kcell (c, k)) (Set.mem_univ (K (c, k))) (fun h => h) (R := 0 + 1) (duties_later m (kcell (c, k)))) $$ [Hat] with Hz
  · isplitr; · iexact HI
    iexact Hat
  iapply Hk
  isplitl [Hp]; · iexact Hp
  isplitl [Hz]; · iexact Hz
  iexists _; iexact HO

/-! ## The barrier's signal -/

/-- The signal to the peer's barrier, handing over `c`'s landing places. -/
theorem wp_greet (c n : Dev nD) (hn : n = peer c) (l : List (Fin 17)) {s : Sem sig} (hs : SemLoc.reg s = csem 0)
    {α : Type} {Q : α → sProp 𝕄} {kt : PUnit → Prog (TpuEff nD τ sig (Elt F) Λ₀ .tc) α} :
    iprop(world m K ∗ ticket (F := F) c 0 ∗ landings (F := F) c ∗ owing (F := F) c (0 :: l))
      ⊢ iprop((owing (F := F) c l -∗ runs c (kt ⟨⟩) Q) -∗ runs c (.op (.semSignal (n : Thread nD τ) s 1) kt) Q) := by
  subst hn
  obtain rfl : s = barS := by injection hs
  unfold owing ticket
  iintro ⟨#Hw, Ht, Hl, ⟨%W, HO⟩⟩ Hk
  ihave #HI := (world_inv m K (peer c, 0)) $$ Hw
  ihave #Hr := (world_reached m K (peer c, 0)) $$ Hw
  iapply (Rounds.wp_signal 𝒱₀ ER (sched m) (c : Thread nD τ) none (dst := (peer c : Thread nD τ)) (κ := K (peer c, 0)) (d := ())
      (mem_duties_cell m (peer c) 0) (amount_cell m (peer c) 0 ()) () (due c l) rfl (W := W)) $$ [Ht Hl HO]
  · isplitr; · iexact HI
    isplitl [HO]; · iexact HO
    isplitl [Ht]; · iexact Ht
    isplitl [Hl]
    · iapply (Entails.of_eq (show landings (F := F) c = (sched m).payload ((peer c : Thread nD τ), .reg barS) 0 () from
        ((payload_cell m (peer c) 0 ()).trans (by show landings (F := F) (peer (peer c)) = _; rw [peer_peer])).symm))
      iexact Hl
    iexact Hr
  iintro HO
  iapply Hk
  iexists W; iexact HO

/-! ## Transfers and copies -/

/-- A transfer of `X` to the peer: the departure is the device's to wait for, the arrival no longer owed. -/
theorem wp_transfer (c n : Dev nD) (hn : n = peer c) {sh : Shape} {src dst : Memref sig .tc .vmem sh .bf16} (X : sh.Idx → Elt F .bf16)
    (kS kR : Fin 17) (l : List (Fin 17)) {sS sR : SemLoc sig} (hS : sS = csem kS) (hR : sR = csem kR)
    (hA : dst.view.amount (csem kR) = amt kR) (hSR : amt kS = amt kR)
    (hpS : free (F := F) c src ⊢ pay m c kS) (hpR : holds (peer c) dst X ⊢ pay m (peer c) kR)
    {hsc : dst.view.ref.isScScratch = false} {hsrc : src.view.WordExact} {hdst : dst.view.WordExact}
    {hsem : DmaTarget.Typed .vmem sR (.remote (Dev.tc n : Thread nD τ) dst sS hsc)}
    {α : Type} {Q : α → sProp 𝕄} {kt : PUnit → Prog (TpuEff nD τ sig (Elt F) Λ₀ .tc) α} :
    iprop(world m K ∗ armed (F := F) c kS ∗ ticket (F := F) c kR ∗ holds c src X ∗ free (F := F) (peer c) dst ∗ owing (F := F) c (kR :: l))
      ⊢ iprop(((rdy (F := F) c kS ∗ owing (F := F) c l) -∗ runs c (kt ⟨⟩) Q)
          -∗ runs c (.op (.enqueueDma src (.remote (Dev.tc n : Thread nD τ) dst sS hsc) sR hsrc hdst hsem) kt) Q) := by
  subst hn hS hR
  unfold owing armed ticket rdy holds owns free
  iintro ⟨#Hw, ⟨Hat, HtS⟩, HtR, ⟨%fs, %hX, Hs⟩, ⟨%fd, Hd⟩, ⟨%W, HO⟩⟩ Hk
  ihave #HIS := (world_inv m K (c, kS)) $$ Hw
  ihave #HIR := (world_inv m K (peer c, kR)) $$ Hw
  ihave #HrS := (world_reached m K (c, kS)) $$ Hw
  ihave #HrR := (world_reached m K (peer c, kR)) $$ Hw
  iapply (Rounds.wp_send_pointsTo 𝒱₀ ER (sched m) (c : Thread nD τ) none (κ₁ := K (c, kS)) (κ₂ := K (peer c, kR))
      (r₁ := 0) (r₂ := 0) (d₁ := ()) (d₂ := ()) (fs := fs) (fd := fd) (mem_duties_cell m c kS) (mem_duties_cell m (peer c) kR)
      () () (amt kR) hA ((amount_cell m c kS ()).trans hSR) (amount_cell m (peer c) kR ()) (due c l) rfl (W := W)
      (by
        rw [payload_cell]; refine BIBase.Entails.trans ?_ hpS
        unfold free; iintro H; iexists fs; iexact H)
      (by
        rw [payload_cell]; refine BIBase.Entails.trans ?_ hpR
        unfold holds owns; iintro H; iexists (dst.view.write (Elt F) fd (src.view.read (Elt F) fs) Finset.univ)
        isplitr; · ipureintro; exact View.read_write_univ _ _ |>.trans hX
        iexact H)) $$ [HtS HtR Hs Hd HO]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hat Hc]
  · isplitl [Hat]; · iexact Hat
    rw [hSR]; iexact Hc
  iexists W; iexact HO

/-- A copy within the device, out of an array into a buffer. -/
theorem wp_fetch (c : Dev nD) {sh : Shape} {src : Memref sig .tc .hbm sh .f32} {dst : Memref sig .tc .vmem sh .f32}
    (f : Buf (Elt F) (src.view.loc (c : Thread nD τ))) (k : Fin 17) {s : SemLoc sig} (hs : s = csem k)
    (hA : dst.view.amount (csem k) = amt k)
    (hp : iprop(holds c dst (src.view.read (Elt F) f) ∗ (src.view.loc (c : Thread nD τ) ↦[src.view.set]{fullShare} f)) ⊢ pay m c k)
    {hsrc : src.view.WordExact} {hdst : dst.view.WordExact} {hsem : DmaTarget.Typed (nD := nD) .hbm s (DmaTarget.here (p := (c : Thread nD τ).2) dst)}
    {α : Type} {Q : α → sProp 𝕄} {kt : PUnit → Prog (TpuEff nD τ sig (Elt F) Λ₀ .tc) α} :
    iprop(world m K ∗ armed (F := F) c k ∗ (src.view.loc (c : Thread nD τ) ↦[src.view.set]{fullShare} f) ∗ free (F := F) c dst)
      ⊢ iprop((rdy (F := F) c k -∗ runs c (kt ⟨⟩) Q) -∗ runs c (.op (.enqueueDma src (.here dst) s hsrc hdst hsem) kt) Q) := by
  subst hs
  unfold armed rdy free
  iintro ⟨#Hw, ⟨Hat, Ht⟩, Hs, ⟨%fd, Hd⟩⟩ Hk
  ihave #HI := (world_inv m K (c, k)) $$ Hw
  ihave #Hr := (world_reached m K (c, k)) $$ Hw
  iapply (Rounds.wp_copy_pointsTo 𝒱₀ ER (sched m) (c : Thread nD τ) none (κ := K (c, k)) (fs := f) (fd := fd) (mem_duties_cell m c k)
      () (amt k) hA (amount_cell m c k ())
      (by
        rw [payload_cell]; refine BIBase.Entails.trans ?_ hp
        unfold holds owns; iintro ⟨H, Hs⟩
        isplitl [H]
        · iexists (dst.view.write (Elt F) fd (src.view.read (Elt F) f) Finset.univ)
          isplitr; · ipureintro; exact View.read_write_univ _ _
          iexact H
        iexact Hs)) $$ [Ht Hs Hd]
  · isplitr; · iexact HI
    isplitl [Hs]; · iexact Hs
    isplitl [Hd]; · iexact Hd
    isplitl [Ht]; · iexact Ht
    iexact Hr
  iintro Hc
  iapply Hk
  isplitl [Hat]; · iexact Hat
  iexact Hc

/-! ## Loads and stores -/

omit [FloatOps F] in
theorem holds_free (c : Dev nD) {sp : Space} {sh : Shape} {e : EltTy} (M : Memref sig .tc sp sh e) (X : sh.Idx → Elt F e) :
    (holds c M X : sProp 𝕄) ⊢ free (F := F) c M := by
  unfold holds owns free; iintro ⟨%f, -, H⟩; iexists f; iexact H

omit [FloatOps F] in
theorem free_holds (c : Dev nD) {sp : Space} {sh : Shape} {e : EltTy} (M : Memref sig .tc sp sh e) :
    (free (F := F) c M : sProp 𝕄) ⊢ iprop(∃ X, holds c M X) := by
  unfold holds owns free; iintro ⟨%f, H⟩; iexists (M.view.read (Elt F) f); iexists f
  isplitr; · (ipureintro; rfl)
  iexact H

/-- A load of a piece of a buffer. -/
theorem wp_loadPiece (c : Dev nD) {cs : CoreSpace} {sh : Shape} {e : EltTy} {M : Memref sig .tc cs sh e} {r : Rect sh} (h : ∀ a, r.stride a = 1)
    {hl : M.view.LoadsAt r.toLoadRect} (X : r.shape.Idx → Elt F e)
    {α : Type} {Q : α → sProp 𝕄} {kt : (r.shape.Idx → Elt F e) → Prog (TpuEff nD τ sig (Elt F) Λ₀ .tc) α} :
    (holds c (M.slice r h) X : sProp 𝕄)
      ⊢ iprop((holds c (M.slice r h) X -∗ runs c (kt X) Q) -∗ runs c (.op (.load M r.toLoadRect hl) kt) Q) := by
  unfold holds owns
  iintro ⟨%f, %hX, H⟩ Hk
  subst hX
  iapply (wp_load_rect 𝒱₀ (c : Thread nD τ) none Set.univ (m := M) (r := r) (S := (M.slice r h).view.set) (f := f) subset_rfl) $$ H
  iintro H
  iapply Hk
  iexists f
  isplitr; · (ipureintro; rfl)
  iexact H

/-- A store into a piece of a buffer. -/
theorem wp_storePiece (c : Dev nD) {cs : CoreSpace} {sh : Shape} {e : EltTy} {M : Memref sig .tc cs sh e} {r : Rect sh} (h : ∀ a, r.stride a = 1)
    {w : r.shape.Idx → Elt F e} {hx : (M.access r).Stores Finset.univ} {hm}
    {α : Type} {Q : α → sProp 𝕄} {kt : PUnit → Prog (TpuEff nD τ sig (Elt F) Λ₀ .tc) α} :
    (free (F := F) c (M.slice r h) : sProp 𝕄)
      ⊢ iprop((holds c (M.slice r h) w -∗ runs c (kt ⟨⟩) Q) -∗ runs c (.op (.store M r w Finset.univ hx hm) kt) Q) := by
  unfold holds owns free
  iintro ⟨%f, H⟩ Hk
  iapply (wp_store 𝒱₀ (c : Thread nD τ) none Set.univ (m := M) (r := r) (Mk := Finset.univ) (S := (M.slice r h).view.set) (f := f)
    (by rw [View.setOn_univ])) $$ H
  iintro H
  iapply Hk
  iexists ((M.access r).write (Elt F) f w Finset.univ)
  isplitr; · ipureintro; exact View.read_write_univ _ _
  iexact H

/-- A load of a whole buffer, all of whose contents the rectangle reads. -/
theorem wp_loadAll (c : Dev nD) {cs : CoreSpace} {sh : Shape} {e : EltTy} {M : Memref sig .tc cs sh e} {r : Rect sh}
    {hl : M.view.LoadsAt r.toLoadRect} (X : sh.Idx → Elt F e) (Y : r.shape.Idx → Elt F e)
    (hY : ∀ f : M.view.ty.Contents (Elt F), M.view.read (Elt F) f = X → M.view.readAt (Elt F) r.toLoadRect f = Y) (hset : M.view.set = Finset.univ)
    {α : Type} {Q : α → sProp 𝕄} {kt : (r.shape.Idx → Elt F e) → Prog (TpuEff nD τ sig (Elt F) Λ₀ .tc) α} :
    (holds c M X : sProp 𝕄)
      ⊢ iprop((holds c M X -∗ runs c (kt Y) Q) -∗ runs c (.op (.load M r.toLoadRect hl) kt) Q) := by
  unfold holds owns
  iintro ⟨%f, %hX, H⟩ Hk
  iapply (wp_load 𝒱₀ (c : Thread nD τ) none Set.univ (m := M) (r := r.toLoadRect) (S := M.view.set) (f := f)
    (by rw [hset]; exact Finset.subset_univ _)) $$ H
  iintro H
  rw [hY f hX]
  iapply Hk
  iexists f
  isplitr; · (ipureintro; exact hX)
  iexact H

/-- A store over a whole buffer, at a rectangle that covers it. -/
theorem wp_storeAll (c : Dev nD) {cs : CoreSpace} {sh : Shape} {e : EltTy} {M : Memref sig .tc cs sh e} {r : Rect sh}
    (X : sh.Idx → Elt F e) {w : r.shape.Idx → Elt F e} {hx : (M.access r).Stores Finset.univ} {hm}
    (hX : ∀ f : M.view.ty.Contents (Elt F), M.view.read (Elt F) ((M.access r).write (Elt F) f w Finset.univ) = X) (hset : M.view.set = Finset.univ)
    {α : Type} {Q : α → sProp 𝕄} {kt : PUnit → Prog (TpuEff nD τ sig (Elt F) Λ₀ .tc) α} :
    (free (F := F) c M : sProp 𝕄)
      ⊢ iprop((holds c M X -∗ runs c (kt ⟨⟩) Q) -∗ runs c (.op (.store M r w Finset.univ hx hm) kt) Q) := by
  unfold holds owns free
  iintro ⟨%f, H⟩ Hk
  iapply (wp_store 𝒱₀ (c : Thread nD τ) none Set.univ (m := M) (r := r) (Mk := Finset.univ) (S := M.view.set) (f := f)
    (by rw [hset]; exact Finset.subset_univ _)) $$ H
  iintro H
  iapply Hk
  iexists ((M.access r).write (Elt F) f w Finset.univ)
  isplitr; · ipureintro; exact hX f
  iexact H

omit [FloatOps F] in
theorem zero2 : (![0, 0] : Fin 2 → ℕ) = fun _ => 0 := funext fun a => by fin_cases a <;> rfl

end Cert.Exchange
end
-- ==== Proof.Parts.lean ====
/-
# The parts of the kernel
-/
module

public import proofs.«01_k».proof.Proof.Rules

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ)

/-- The two first copies start, the barrier is passed, and the tokens are read. -/
theorem sound_part1 (c : Dev nD)  (Q : _ → sProp 𝕄) :
    iprop(world m K ∗ armed (F := F) c 13 ∗ armed (F := F) c 14 ∗ lentA c w10 (m ((c : Thread nD τ).loc main_arg2)) ∗ lentB c w20 (m ((c : Thread nD τ).loc main_arg3)) ∗ free (F := F) c s1M ∗ free (F := F) c s2M ∗ ticket (F := F) c 0 ∗ landings (F := F) c ∗ rdy (F := F) c 0 ∗ owing (F := F) c [0, 7, 8, 9, 10, 11, 12] ∗ holds c xM (xin m c)
        ∗ (∀ v2 v6 v9, (rdy (F := F) c 13 ∗ rdy (F := F) c 14 ∗ pay m c 0 ∗ closed (F := F) c 0 ∗ owing (F := F) c [7, 8, 9, 10, 11, 12] ∗ holds c xM (xin m c)) -∗ Q ⟨c, v2, v6, v9, k0_pay1 (xin m c), Dev.word c, 2#32, 4#32⟩))
      ⊢ runs c (k0_part1 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 ) Q := by
  rw [k0_part1_eq_skeleton]; unfold k0_part1_skel
  simp only [semSignalWord, semWaitWord, Prog.lift, Prog.bind_op, Prog.bind_ret, Prog.pure_eq_ret, wp_deviceId, dev1_eq]
  iintro ⟨#Hw, Ha13, Ha14, Hs13, Hs14, Hd13, Hd14, Ht0, Hl, Hr0, HO, Hx, Hk⟩
  unfold lentA lentB
  iapply (wp_fetch m K c (src := w10) (dst := s1M) (m ((c : Thread nD τ).loc main_arg2)) 13 (s := .dma lc0) rfl rfl BIBase.Entails.rfl) $$ [Ha13 Hs13 Hd13]
  · isplitr; · iexact Hw
    isplitl [Ha13]; · iexact Ha13
    isplitl [Hs13]; · iexact Hs13
    iexact Hd13
  iintro Hr13
  iapply (wp_fetch m K c (src := w20) (dst := s2M) (m ((c : Thread nD τ).loc main_arg3)) 14 (s := .dma lc1) rfl rfl BIBase.Entails.rfl) $$ [Ha14 Hs14 Hd14]
  · isplitr; · iexact Hw
    isplitl [Ha14]; · iexact Ha14
    isplitl [Hs14]; · iexact Hs14
    iexact Hd14
  iintro Hr14
  iapply (wp_greet m K c (peer c) rfl [7, 8, 9, 10, 11, 12] rfl) $$ [Ht0 Hl HO]
  · isplitr; · iexact Hw
    isplitl [Ht0]; · iexact Ht0
    isplitl [Hl]; · iexact Hl
    iexact HO
  iintro HO
  iapply (wp_await m K c 0 [7, 8, 9, 10, 11, 12] (wpE_semWait_eq 𝒱₀ (c : Thread nD τ) none Set.univ) (by decide)) $$ [Hr0 HO]
  · isplitr; · iexact Hw
    isplitl [Hr0]; · iexact Hr0
    iexact HO
  iintro ⟨Hp0, Hz0, HO⟩
  iapply (wp_loadAll c (M := xM) (xin m c) (xin m c) (fun f hf => (Memref.readAt_unit_zero (Elt F) cc0_stg0_0 zero2 _ f).trans ((View.read_whole cc0_stg0_0 f).symm.trans hf)) (View.set_whole _)) $$ Hx; iintro Hx
  rw [runs_ret]; imodintro
  iapply Hk
  isplitl [Hr13]; · iexact Hr13
  isplitl [Hr14]; · iexact Hr14
  isplitl [Hp0]; · iexact Hp0
  isplitl [Hz0]; · iexact Hz0
  isplitl [HO]; · iexact HO
  iexact Hx

/-- The experts are read and the first block of tokens is built. -/
theorem sound_part2 (c : Dev nD) (v27 : FVec F S1024x1024 .bf16) (v28 c2 c4 : BitVec 32) (Q : _ → sProp 𝕄) :
    iprop(world m K ∗ holds c aM (ain m c) ∗ free (F := F) c xs0
        ∗ ((holds c aM (ain m c) ∗ holds c xs0 (k0_pay4 v27 v28 c2 c4 (ain m c))) -∗ Q ⟨k0_pay2 v28 c2 c4 (ain m c), k0_pay3 v28 c2 c4 (ain m c), iota .tc S1024x288 32 [1] iota_S1024x288_d1_w32⟩))
      ⊢ runs c (k0_part2 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 v27 v28 c2 c4) Q := by
  rw [k0_part2_eq_skeleton]; unfold k0_part2_skel
  simp only [semSignalWord, semWaitWord, Prog.lift, Prog.bind_op, Prog.bind_ret, Prog.pure_eq_ret, wp_deviceId, dev1_eq]
  iintro ⟨#Hw, Hx, Hs0, Hk⟩
  iapply (wp_loadAll c (M := aM) (ain m c) (ain m c) (fun f hf => (Memref.readAt_unit_zero (Elt F) cc0_stg1_0 zero2 _ f).trans ((View.read_whole cc0_stg1_0 f).symm.trans hf)) (View.set_whole _)) $$ Hx; iintro Hx
  ihave Hs0 := (free_holds c _) $$ Hs0
  icases Hs0 with ⟨%y, Hs0⟩
  iapply (wp_loadPiece c (M := xsB) (r := half0) (fun _ => rfl) y) $$ Hs0; iintro Hs0
  ihave Hs0 := (holds_free c _ _) $$ Hs0
  iapply (wp_storePiece c (M := xsB) (r := half0) (fun _ => rfl)) $$ Hs0; iintro Hs0
  rw [runs_ret]; imodintro
  iapply Hk
  isplitl [Hx]; · iexact Hx
  iexact Hs0

/-- The first block of tokens leaves; the second is built. -/
theorem sound_part3 (c : Dev nD) (v2 v6 v9 : BitVec 32) (v27 : FVec F S1024x1024 .bf16) (v50 : FVec F S1024x4 .bf16) (v60 : IVec S1024x4 32) (v61 : IVec S1024x288 32) (Q : _ → sProp 𝕄) :
    iprop(world m K ∗ armed (F := F) c 1 ∗ ticket (F := F) c 7 ∗ holds c xs0 (toks0 m c) ∗ free (F := F) (peer c) xr0 ∗ free (F := F) c xs1 ∗ owing (F := F) c [7, 8, 9, 10, 11, 12]
        ∗ ((rdy (F := F) c 1 ∗ holds c xs1 (k0_pay5 v27 v50 v60 v61) ∗ owing (F := F) c [8, 9, 10, 11, 12]) -∗ Q ⟨⟩))
      ⊢ runs c (k0_part3 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 c v2 v6 v9 v27 v50 v60 v61) Q := by
  rw [k0_part3_eq_skeleton]; unfold k0_part3_skel
  simp only [semSignalWord, semWaitWord, Prog.lift, Prog.bind_op, Prog.bind_ret, Prog.pure_eq_ret, wp_deviceId, dev1_eq]
  iintro ⟨#Hw, Ha1, Ht7, Hs0, Hd0, Hs1, HO, Hk⟩
  iapply (wp_transfer m K c _ (dev2_eq c) (src := xs0) (dst := xr0) (toks0 m c) 1 7 [8, 9, 10, 11, 12] (sS := .dma sd0) (sR := .dma rv0) rfl rfl rfl rfl BIBase.Entails.rfl
    (Entails.of_eq (show holds (peer c) xr0 (toks0 m c) = holds (peer c) xr0 (toks0 m (peer (peer c))) by rw [peer_peer]))) $$ [Ha1 Ht7 Hs0 Hd0 HO]
  · isplitr; · iexact Hw
    isplitl [Ha1]; · iexact Ha1
    isplitl [Ht7]; · iexact Ht7
    isplitl [Hs0]; · iexact Hs0
    isplitl [Hd0]; · iexact Hd0
    iexact HO
  iintro ⟨Hr1, HO⟩
  ihave Hs1 := (free_holds c _) $$ Hs1
  icases Hs1 with ⟨%y, Hs1⟩
  iapply (wp_loadPiece c (M := xsB) (r := half1) (fun _ => rfl) y) $$ Hs1; iintro Hs1
  ihave Hs1 := (holds_free c _ _) $$ Hs1
  iapply (wp_storePiece c (M := xsB) (r := half1) (fun _ => rfl)) $$ Hs1; iintro Hs1
  rw [runs_ret]; imodintro
  iapply Hk
  isplitl [Hr1]; · iexact Hr1
  isplitl [Hs1]; · iexact Hs1
  iexact HO

/-- The second block of tokens leaves; the first expert's weights are read and the second's start to come. -/
theorem sound_part4 (c : Dev nD) (v50 : FVec F S1024x4 .bf16) (v60 : IVec S1024x4 32) (v61 : IVec S1024x288 32) (Q : _ → sProp 𝕄) :
    iprop(world m K ∗ armed (F := F) c 2 ∗ ticket (F := F) c 8 ∗ holds c xs1 (toks1 m c) ∗ free (F := F) (peer c) xr1 ∗ owing (F := F) c [8, 9, 10, 11, 12] ∗ rdy (F := F) c 13 ∗ rdy (F := F) c 14 ∗ armed (F := F) c 15 ∗ armed (F := F) c 16 ∗ (lentA c w10 (m ((c : Thread nD τ).loc main_arg2)) -∗ lentA c w11 (m ((c : Thread nD τ).loc main_arg2)) ∗ (lentA c w11 (m ((c : Thread nD τ).loc main_arg2)) -∗ (((c : Thread nD τ).loc main_arg2) ↦{fullShare} (m ((c : Thread nD τ).loc main_arg2))))) ∗ (lentB c w20 (m ((c : Thread nD τ).loc main_arg3)) -∗ lentB c w21 (m ((c : Thread nD τ).loc main_arg3)) ∗ (lentB c w21 (m ((c : Thread nD τ).loc main_arg3)) -∗ (((c : Thread nD τ).loc main_arg3) ↦{fullShare} (m ((c : Thread nD τ).loc main_arg3)))))
        ∗ ((rdy (F := F) c 2 ∗ owing (F := F) c [9, 10, 11, 12] ∗ closed (F := F) c 13 ∗ closed (F := F) c 14 ∗ rdy (F := F) c 15 ∗ rdy (F := F) c 16 ∗ (lentA c w11 (m ((c : Thread nD τ).loc main_arg2)) -∗ (((c : Thread nD τ).loc main_arg2) ↦{fullShare} (m ((c : Thread nD τ).loc main_arg2)))) ∗ (lentB c w21 (m ((c : Thread nD τ).loc main_arg3)) -∗ (((c : Thread nD τ).loc main_arg3) ↦{fullShare} (m ((c : Thread nD τ).loc main_arg3))))) -∗ Q ⟨k0_pay6 (wA0 m c), k0_pay7 (wB0 m c), k0_pay8 v50 v60 v61⟩))
      ⊢ runs c (k0_part4 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 c v50 v60 v61) Q := by
  rw [k0_part4_eq_skeleton]; unfold k0_part4_skel
  simp only [semSignalWord, semWaitWord, Prog.lift, Prog.bind_op, Prog.bind_ret, Prog.pure_eq_ret, wp_deviceId, dev1_eq]
  iintro ⟨#Hw, Ha2, Ht8, Hs1, Hd1, HO, Hr13, Hr14, Ha15, Ha16, HA, HB, Hk⟩
  iapply (wp_transfer m K c _ (dev3_eq c) (src := xs1) (dst := xr1) (toks1 m c) 2 8 [9, 10, 11, 12] (sS := .dma sd1) (sR := .dma rv1) rfl rfl rfl rfl BIBase.Entails.rfl
    (Entails.of_eq (show holds (peer c) xr1 (toks1 m c) = holds (peer c) xr1 (toks1 m (peer (peer c))) by rw [peer_peer]))) $$ [Ha2 Ht8 Hs1 Hd1 HO]
  · isplitr; · iexact Hw
    isplitl [Ha2]; · iexact Ha2
    isplitl [Ht8]; · iexact Ht8
    isplitl [Hs1]; · iexact Hs1
    isplitl [Hd1]; · iexact Hd1
    iexact HO
  iintro ⟨Hr2, HO⟩
  iapply (wp_await m K c 13 [9, 10, 11, 12] (wpE_waitDma2_eq 𝒱₀ (c : Thread nD τ) none Set.univ) (by decide)) $$ [Hr13 HO]
  · isplitr; · iexact Hw
    isplitl [Hr13]; · iexact Hr13
    iexact HO
  iintro ⟨Hp13, Hz13, HO⟩
  iapply (wp_await m K c 14 [9, 10, 11, 12] (wpE_waitDma2_eq 𝒱₀ (c : Thread nD τ) none Set.univ) (by decide)) $$ [Hr14 HO]
  · isplitr; · iexact Hw
    isplitl [Hr14]; · iexact Hr14
    iexact HO
  iintro ⟨Hp14, Hz14, HO⟩
  ihave Hp13 := (Entails.of_eq (show pay m c 13 = copyPay0 m c from rfl)) $$ Hp13
  ihave Hp14 := (Entails.of_eq (show pay m c 14 = copyPay1 m c from rfl)) $$ Hp14
  unfold copyPay0 copyPay1
  icases Hp13 with ⟨Hd13, Hs13⟩
  icases Hp14 with ⟨Hd14, Hs14⟩
  iapply (wp_loadAll c (M := s1M) (wA0 m c) (wA0 m c) (fun f hf => (Memref.readAt_unit_zero (Elt F) cc0_scratch5 zero2 _ f).trans ((View.read_whole cc0_scratch5 f).symm.trans hf)) (View.set_whole _)) $$ Hd13; iintro Hd13
  iapply (wp_loadAll c (M := s2M) (wB0 m c) (wB0 m c) (fun f hf => (Memref.readAt_unit_zero (Elt F) cc0_scratch6 zero2 _ f).trans ((View.read_whole cc0_scratch6 f).symm.trans hf)) (View.set_whole _)) $$ Hd14; iintro Hd14
  ihave HA := HA $$ Hs13
  icases HA with ⟨Hs15, HA⟩
  ihave HB := HB $$ Hs14
  icases HB with ⟨Hs16, HB⟩
  ihave Hd15 := (holds_free c s1M _) $$ Hd13
  ihave Hd16 := (holds_free c s2M _) $$ Hd14
  ihave Hs15 := (Entails.of_eq (show lentA c w11 (m ((c : Thread nD τ).loc main_arg2)) = (w11.view.loc (c : Thread nD τ) ↦[w11.view.set]{fullShare} (m ((c : Thread nD τ).loc main_arg2)) : sProp 𝕄) from rfl)) $$ Hs15
  ihave Hs16 := (Entails.of_eq (show lentB c w21 (m ((c : Thread nD τ).loc main_arg3)) = (w21.view.loc (c : Thread nD τ) ↦[w21.view.set]{fullShare} (m ((c : Thread nD τ).loc main_arg3)) : sProp 𝕄) from rfl)) $$ Hs16
  iapply (wp_fetch m K c (src := w11) (dst := s1M) (m ((c : Thread nD τ).loc main_arg2)) 15 (s := .dma lc2) rfl rfl BIBase.Entails.rfl) $$ [Ha15 Hs15 Hd15]
  · isplitr; · iexact Hw
    isplitl [Ha15]; · iexact Ha15
    isplitl [Hs15]; · iexact Hs15
    iexact Hd15
  iintro Hr15
  iapply (wp_fetch m K c (src := w21) (dst := s2M) (m ((c : Thread nD τ).loc main_arg3)) 16 (s := .dma lc3) rfl rfl BIBase.Entails.rfl) $$ [Ha16 Hs16 Hd16]
  · isplitr; · iexact Hw
    isplitl [Ha16]; · iexact Ha16
    isplitl [Hs16]; · iexact Hs16
    iexact Hd16
  iintro Hr16
  rw [runs_ret]; imodintro
  iapply Hk
  isplitl [Hr2]; · iexact Hr2
  isplitl [HO]; · iexact HO
  isplitl [Hz13]; · iexact Hz13
  isplitl [Hz14]; · iexact Hz14
  isplitl [Hr15]; · iexact Hr15
  isplitl [Hr16]; · iexact Hr16
  isplitl [HA]; · iexact HA
  iexact HB

/-- The peer's first block of tokens arrives and passes the first expert. -/
theorem sound_part5 (c : Dev nD) (v2 v6 v9 : BitVec 32) (v27 : FVec F S1024x1024 .bf16) (v123 : FVec F S1024x2048 .bf16) (v125 : FVec F S2048x1024 .bf16) (v142 : FVec F S1024x288 .bf16) (Q : _ → sProp 𝕄) :
    iprop(world m K ∗ rdy (F := F) c 1 ∗ rdy (F := F) c 7 ∗ owing (F := F) c [9, 10, 11, 12] ∗ free (F := F) c ro0 ∗ free (F := F) c rs0
        ∗ (∀ y, (free (F := F) c xs0 ∗ holds c xr0 (toks0 m (peer c)) ∗ closed (F := F) c 1 ∗ closed (F := F) c 7 ∗ owing (F := F) c [9, 10, 11, 12] ∗ holds c ro0 (k0_pay10 v27 v123 v125 v142 (toks0 m (peer c))) ∗ free (F := F) c rs0) -∗ Q ⟨k0_pay9 v27 v123 v142 (toks0 m (peer c)), k0_pay11 v27 v123 v125 v142 (toks0 m (peer c)), y⟩))
      ⊢ runs c (k0_part5 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 v2 v6 v9 v27 v123 v125 v142) Q := by
  rw [k0_part5_eq_skeleton]; unfold k0_part5_skel
  simp only [semSignalWord, semWaitWord, Prog.lift, Prog.bind_op, Prog.bind_ret, Prog.pure_eq_ret, wp_deviceId, dev1_eq]
  iintro ⟨#Hw, Hr1, Hr7, HO, Ho, Hs, Hk⟩
  iapply (wp_await m K c 1 [9, 10, 11, 12] (wpE_waitDma2_eq 𝒱₀ (c : Thread nD τ) none Set.univ) (by decide)) $$ [Hr1 HO]
  · isplitr; · iexact Hw
    isplitl [Hr1]; · iexact Hr1
    iexact HO
  iintro ⟨Hp1, Hz1, HO⟩
  iapply (wp_await m K c 7 [9, 10, 11, 12] (wpE_waitDma2_eq 𝒱₀ (c : Thread nD τ) none Set.univ) (by decide)) $$ [Hr7 HO]
  · isplitr; · iexact Hw
    isplitl [Hr7]; · iexact Hr7
    iexact HO
  iintro ⟨Hp7, Hz7, HO⟩
  ihave Hb := (Entails.of_eq (show pay m c 1 = free (F := F) c xs0 from rfl)) $$ Hp1
  ihave Hg := (Entails.of_eq (show pay m c 7 = holds c xr0 (toks0 m (peer c)) from rfl)) $$ Hp7
  iapply (wp_loadPiece c (M := xrB) (r := half0) (fun _ => rfl) (toks0 m (peer c))) $$ Hg; iintro Hg
  ihave Ho := (free_holds c _) $$ Ho
  icases Ho with ⟨%z, Ho⟩
  iapply (wp_loadPiece c (M := roB) (r := half0) (fun _ => rfl) z) $$ Ho; iintro Ho
  ihave Ho := (holds_free c _ _) $$ Ho
  iapply (wp_storePiece c (M := roB) (r := half0) (fun _ => rfl)) $$ Ho; iintro Ho
  ihave Hs := (free_holds c _) $$ Hs
  icases Hs with ⟨%y, Hs⟩
  iapply (wp_loadPiece c (M := rsB) (r := quar0) (fun _ => rfl) y) $$ Hs; iintro Hs
  ihave Hs := (holds_free c _ _) $$ Hs
  rw [runs_ret]; imodintro
  iapply Hk
  isplitl [Hb]; · iexact Hb
  isplitl [Hg]; · iexact Hg
  isplitl [Hz1]; · iexact Hz1
  isplitl [Hz7]; · iexact Hz7
  isplitl [HO]; · iexact HO
  isplitl [Ho]; · iexact Ho
  iexact Hs

/-- The first expert's results leave. -/
theorem sound_part6 (c : Dev nD) (v2 v6 v9 : BitVec 32) (v125 : FVec F S2048x1024 .bf16) (v164 : FVec F S576x2048 .bf16) (v173 : FVec F S144x1024 .bf16) (v174 : Vec F S144x1024 .bf16)
    (h0 : k0_pay12 v173 = back0 m c) (h1 : k0_pay13 v125 v164 = back1 m c) (Q : _ → sProp 𝕄) :
    iprop(world m K ∗ armed (F := F) c 3 ∗ armed (F := F) c 4 ∗ ticket (F := F) c 9 ∗ ticket (F := F) c 10 ∗ free (F := F) (peer c) rr0 ∗ free (F := F) (peer c) rr1 ∗ free (F := F) c rs0 ∗ free (F := F) c rs1 ∗ owing (F := F) c [9, 10, 11, 12]
        ∗ ((rdy (F := F) c 3 ∗ rdy (F := F) c 4 ∗ owing (F := F) c [11, 12]) -∗ Q ⟨⟩))
      ⊢ runs c (k0_part6 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 c v2 v6 v9 v125 v164 v173 v174) Q := by
  rw [k0_part6_eq_skeleton]; unfold k0_part6_skel
  simp only [semSignalWord, semWaitWord, Prog.lift, Prog.bind_op, Prog.bind_ret, Prog.pure_eq_ret, wp_deviceId, dev1_eq]
  iintro ⟨#Hw, Ha3, Ha4, Ht9, Ht10, Hd0, Hd1, Hs0, Hs1, HO, Hk⟩
  iapply (wp_storePiece c (M := rsB) (r := quar0) (fun _ => rfl)) $$ Hs0; iintro Hs0
  rw [h0]
  iapply (wp_transfer m K c _ (dev4_eq c) (src := rs0) (dst := rr0) (back0 m c) 3 9 [10, 11, 12] (sS := .dma sd2) (sR := .dma rv2) rfl rfl rfl rfl BIBase.Entails.rfl
    (Entails.of_eq (show holds (peer c) rr0 (back0 m c) = holds (peer c) rr0 (back0 m (peer (peer c))) by rw [peer_peer]))) $$ [Ha3 Ht9 Hs0 Hd0 HO]
  · isplitr; · iexact Hw
    isplitl [Ha3]; · iexact Ha3
    isplitl [Ht9]; · iexact Ht9
    isplitl [Hs0]; · iexact Hs0
    isplitl [Hd0]; · iexact Hd0
    iexact HO
  iintro ⟨Hr3, HO⟩
  ihave Hs1 := (free_holds c _) $$ Hs1
  icases Hs1 with ⟨%y, Hs1⟩
  iapply (wp_loadPiece c (M := rsB) (r := quar1) (fun _ => rfl) y) $$ Hs1; iintro Hs1
  ihave Hs1 := (holds_free c _ _) $$ Hs1
  iapply (wp_storePiece c (M := rsB) (r := quar1) (fun _ => rfl)) $$ Hs1; iintro Hs1
  rw [h1]
  iapply (wp_transfer m K c _ (dev5_eq c) (src := rs1) (dst := rr1) (back1 m c) 4 10 [11, 12] (sS := .dma sd3) (sR := .dma rv3) rfl rfl rfl rfl BIBase.Entails.rfl
    (Entails.of_eq (show holds (peer c) rr1 (back1 m c) = holds (peer c) rr1 (back1 m (peer (peer c))) by rw [peer_peer]))) $$ [Ha4 Ht10 Hs1 Hd1 HO]
  · isplitr; · iexact Hw
    isplitl [Ha4]; · iexact Ha4
    isplitl [Ht10]; · iexact Ht10
    isplitl [Hs1]; · iexact Hs1
    isplitl [Hd1]; · iexact Hd1
    iexact HO
  iintro ⟨Hr4, HO⟩
  rw [runs_ret]; imodintro
  iapply Hk
  isplitl [Hr3]; · iexact Hr3
  isplitl [Hr4]; · iexact Hr4
  iexact HO

/-- The second expert's weights are read. -/
theorem sound_part7 (c : Dev nD) (v2 v6 v9 : BitVec 32) (v50 : FVec F S1024x4 .bf16) (v60 : IVec S1024x4 32) (v61 : IVec S1024x288 32) (Q : _ → sProp 𝕄) :
    iprop(world m K ∗ rdy (F := F) c 15 ∗ rdy (F := F) c 16 ∗ rdy (F := F) c 2 ∗ owing (F := F) c [11, 12]
        ∗ ((closed (F := F) c 15 ∗ closed (F := F) c 16 ∗ closed (F := F) c 2 ∗ owing (F := F) c [11, 12] ∗ free (F := F) c xs1 ∗ free (F := F) c s1M ∗ free (F := F) c s2M ∗ lentA c w11 (m ((c : Thread nD τ).loc main_arg2)) ∗ lentB c w21 (m ((c : Thread nD τ).loc main_arg3))) -∗ Q ⟨k0_pay14 (wA1 m c), k0_pay15 (wB1 m c), k0_pay16 v50 v60 v61⟩))
      ⊢ runs c (k0_part7 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 v2 v6 v9 v50 v60 v61) Q := by
  rw [k0_part7_eq_skeleton]; unfold k0_part7_skel
  simp only [semSignalWord, semWaitWord, Prog.lift, Prog.bind_op, Prog.bind_ret, Prog.pure_eq_ret, wp_deviceId, dev1_eq]
  iintro ⟨#Hw, Hr15, Hr16, Hr2, HO, Hk⟩
  iapply (wp_await m K c 15 [11, 12] (wpE_waitDma2_eq 𝒱₀ (c : Thread nD τ) none Set.univ) (by decide)) $$ [Hr15 HO]
  · isplitr; · iexact Hw
    isplitl [Hr15]; · iexact Hr15
    iexact HO
  iintro ⟨Hp15, Hz15, HO⟩
  iapply (wp_await m K c 16 [11, 12] (wpE_waitDma2_eq 𝒱₀ (c : Thread nD τ) none Set.univ) (by decide)) $$ [Hr16 HO]
  · isplitr; · iexact Hw
    isplitl [Hr16]; · iexact Hr16
    iexact HO
  iintro ⟨Hp16, Hz16, HO⟩
  ihave Hp15 := (Entails.of_eq (show pay m c 15 = copyPay2 m c from rfl)) $$ Hp15
  ihave Hp16 := (Entails.of_eq (show pay m c 16 = copyPay3 m c from rfl)) $$ Hp16
  unfold copyPay2 copyPay3
  icases Hp15 with ⟨Hd15, Hs15⟩
  icases Hp16 with ⟨Hd16, Hs16⟩
  iapply (wp_loadAll c (M := s1M) (wA1 m c) (wA1 m c) (fun f hf => (Memref.readAt_unit_zero (Elt F) cc0_scratch5 zero2 _ f).trans ((View.read_whole cc0_scratch5 f).symm.trans hf)) (View.set_whole _)) $$ Hd15; iintro Hd15
  iapply (wp_loadAll c (M := s2M) (wB1 m c) (wB1 m c) (fun f hf => (Memref.readAt_unit_zero (Elt F) cc0_scratch6 zero2 _ f).trans ((View.read_whole cc0_scratch6 f).symm.trans hf)) (View.set_whole _)) $$ Hd16; iintro Hd16
  iapply (wp_await m K c 2 [11, 12] (wpE_waitDma2_eq 𝒱₀ (c : Thread nD τ) none Set.univ) (by decide)) $$ [Hr2 HO]
  · isplitr; · iexact Hw
    isplitl [Hr2]; · iexact Hr2
    iexact HO
  iintro ⟨Hp2, Hz2, HO⟩
  ihave Hb := (Entails.of_eq (show pay m c 2 = free (F := F) c xs1 from rfl)) $$ Hp2
  ihave Hd15 := (holds_free c s1M _) $$ Hd15
  ihave Hd16 := (holds_free c s2M _) $$ Hd16
  rw [runs_ret]; imodintro
  iapply Hk
  isplitl [Hz15]; · iexact Hz15
  isplitl [Hz16]; · iexact Hz16
  isplitl [Hz2]; · iexact Hz2
  isplitl [HO]; · iexact HO
  isplitl [Hb]; · iexact Hb
  isplitl [Hd15]; · iexact Hd15
  isplitl [Hd16]; · iexact Hd16
  isplitl [Hs15]; · iexact Hs15
  iexact Hs16

/-- The peer's second block of tokens arrives and passes the second expert. -/
theorem sound_part8 (c : Dev nD) (v2 v6 v9 : BitVec 32) (v27 : FVec F S1024x1024 .bf16) (v216 : FVec F S1024x2048 .bf16) (v218 : FVec F S2048x1024 .bf16) (v227 : FVec F S1024x288 .bf16) (Q : _ → sProp 𝕄) :
    iprop(world m K ∗ rdy (F := F) c 8 ∗ owing (F := F) c [11, 12] ∗ free (F := F) c ro1 ∗ free (F := F) c rs2
        ∗ ((holds c xr1 (toks1 m (peer c)) ∗ closed (F := F) c 8 ∗ owing (F := F) c [11, 12] ∗ holds c ro1 (k0_pay18 v27 v216 v218 v227 (toks1 m (peer c))) ∗ holds c rs2 (k0_pay19 v27 v216 v218 v227 (toks1 m (peer c)))) -∗ Q (k0_pay17 v27 v216 v227 (toks1 m (peer c)))))
      ⊢ runs c (k0_part8 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 v2 v6 v9 v27 v216 v218 v227) Q := by
  rw [k0_part8_eq_skeleton]; unfold k0_part8_skel
  simp only [semSignalWord, semWaitWord, Prog.lift, Prog.bind_op, Prog.bind_ret, Prog.pure_eq_ret, wp_deviceId, dev1_eq]
  iintro ⟨#Hw, Hr8, HO, Ho, Hs, Hk⟩
  iapply (wp_await m K c 8 [11, 12] (wpE_waitDma2_eq 𝒱₀ (c : Thread nD τ) none Set.univ) (by decide)) $$ [Hr8 HO]
  · isplitr; · iexact Hw
    isplitl [Hr8]; · iexact Hr8
    iexact HO
  iintro ⟨Hp8, Hz8, HO⟩
  ihave Hg := (Entails.of_eq (show pay m c 8 = holds c xr1 (toks1 m (peer c)) from rfl)) $$ Hp8
  iapply (wp_loadPiece c (M := xrB) (r := half1) (fun _ => rfl) (toks1 m (peer c))) $$ Hg; iintro Hg
  ihave Ho := (free_holds c _) $$ Ho
  icases Ho with ⟨%z, Ho⟩
  iapply (wp_loadPiece c (M := roB) (r := half1) (fun _ => rfl) z) $$ Ho; iintro Ho
  ihave Ho := (holds_free c _ _) $$ Ho
  iapply (wp_storePiece c (M := roB) (r := half1) (fun _ => rfl)) $$ Ho; iintro Ho
  ihave Hs := (free_holds c _) $$ Hs
  icases Hs with ⟨%y, Hs⟩
  iapply (wp_loadPiece c (M := rsB) (r := quar2) (fun _ => rfl) y) $$ Hs; iintro Hs
  ihave Hs := (holds_free c _ _) $$ Hs
  iapply (wp_storePiece c (M := rsB) (r := quar2) (fun _ => rfl)) $$ Hs; iintro Hs
  rw [runs_ret]; imodintro
  iapply Hk
  isplitl [Hg]; · iexact Hg
  isplitl [Hz8]; · iexact Hz8
  isplitl [HO]; · iexact HO
  isplitl [Ho]; · iexact Ho
  iexact Hs

/-- The second expert's results leave; the results of the device's own tokens are read back. -/
theorem sound_part9 (c : Dev nD) (v2 v6 v9 : BitVec 32) (v50 : FVec F S1024x4 .bf16) (v60 : IVec S1024x4 32) (v61 : IVec S1024x288 32) (v142 : FVec F S1024x288 .bf16) (v218 : FVec F S2048x1024 .bf16) (v227 : FVec F S1024x288 .bf16) (v249 : FVec F S576x2048 .bf16)
    (v292 v294 : Vec F S288x1024 .bf16) (h3 : k0_pay20 v218 v249 = back3 m c) (Q : _ → sProp 𝕄) :
    iprop(world m K ∗ armed (F := F) c 5 ∗ armed (F := F) c 6 ∗ ticket (F := F) c 11 ∗ ticket (F := F) c 12 ∗ free (F := F) (peer c) rr2 ∗ free (F := F) (peer c) rr3 ∗ holds c rs2 (back2 m c) ∗ free (F := F) c rs3 ∗ owing (F := F) c [11, 12] ∗ holds c ro0 v292 ∗ holds c ro1 v294
        ∗ ((rdy (F := F) c 5 ∗ rdy (F := F) c 6 ∗ owing (F := F) c [] ∗ holds c ro0 v292 ∗ holds c ro1 v294) -∗ Q ⟨k0_pay21 v142 v227 v292 v294, k0_pay22 v50 v60 v61, k0_pay23 v60 v61⟩))
      ⊢ runs c (k0_part9 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 c v2 v6 v9 v50 v60 v61 v142 v218 v227 v249) Q := by
  rw [k0_part9_eq_skeleton]; unfold k0_part9_skel
  simp only [semSignalWord, semWaitWord, Prog.lift, Prog.bind_op, Prog.bind_ret, Prog.pure_eq_ret, wp_deviceId, dev1_eq]
  iintro ⟨#Hw, Ha5, Ha6, Ht11, Ht12, Hd2, Hd3, Hs2, Hs3, HO, Ho0, Ho1, Hk⟩
  iapply (wp_transfer m K c _ (dev6_eq c) (src := rs2) (dst := rr2) (back2 m c) 5 11 [12] (sS := .dma sd4) (sR := .dma rv4) rfl rfl rfl rfl BIBase.Entails.rfl
    (Entails.of_eq (show holds (peer c) rr2 (back2 m c) = holds (peer c) rr2 (back2 m (peer (peer c))) by rw [peer_peer]))) $$ [Ha5 Ht11 Hs2 Hd2 HO]
  · isplitr; · iexact Hw
    isplitl [Ha5]; · iexact Ha5
    isplitl [Ht11]; · iexact Ht11
    isplitl [Hs2]; · iexact Hs2
    isplitl [Hd2]; · iexact Hd2
    iexact HO
  iintro ⟨Hr5, HO⟩
  ihave Hs3 := (free_holds c _) $$ Hs3
  icases Hs3 with ⟨%y, Hs3⟩
  iapply (wp_loadPiece c (M := rsB) (r := quar3) (fun _ => rfl) y) $$ Hs3; iintro Hs3
  ihave Hs3 := (holds_free c _ _) $$ Hs3
  iapply (wp_storePiece c (M := rsB) (r := quar3) (fun _ => rfl)) $$ Hs3; iintro Hs3
  rw [h3]
  iapply (wp_transfer m K c _ (dev7_eq c) (src := rs3) (dst := rr3) (back3 m c) 6 12 [] (sS := .dma sd5) (sR := .dma rv5) rfl rfl rfl rfl BIBase.Entails.rfl
    (Entails.of_eq (show holds (peer c) rr3 (back3 m c) = holds (peer c) rr3 (back3 m (peer (peer c))) by rw [peer_peer]))) $$ [Ha6 Ht12 Hs3 Hd3 HO]
  · isplitr; · iexact Hw
    isplitl [Ha6]; · iexact Ha6
    isplitl [Ht12]; · iexact Ht12
    isplitl [Hs3]; · iexact Hs3
    isplitl [Hd3]; · iexact Hd3
    iexact HO
  iintro ⟨Hr6, HO⟩
  iapply (wp_loadPiece c (M := roB) (r := half0) (fun _ => rfl) v292) $$ Ho0; iintro Ho0
  iapply (wp_loadPiece c (M := roB) (r := half1) (fun _ => rfl) v294) $$ Ho1; iintro Ho1
  rw [runs_ret]; imodintro
  iapply Hk
  isplitl [Hr5]; · iexact Hr5
  isplitl [Hr6]; · iexact Hr6
  isplitl [HO]; · iexact HO
  isplitl [Ho0]; · iexact Ho0
  iexact Ho1

/-- The peer's first quarter of results arrives. -/
theorem sound_part10 (c : Dev nD) (v2 v6 v9 : BitVec 32) (v50 : FVec F S1024x4 .bf16) (v296 : FVec F S1024x1024 .f32) (v305 : FVec F S1024x288 .bf16) (v309 : IVec S1024x288 32) (Q : _ → sProp 𝕄) :
    iprop(world m K ∗ rdy (F := F) c 3 ∗ rdy (F := F) c 9 ∗ rdy (F := F) c 4 ∗ owing (F := F) c []
        ∗ ((closed (F := F) c 3 ∗ closed (F := F) c 9 ∗ closed (F := F) c 4 ∗ owing (F := F) c [] ∗ free (F := F) c rs0 ∗ holds c rr0 (back0 m (peer c)) ∗ free (F := F) c rs1) -∗ Q ⟨k0_pay24 v50 v309, k0_pay25 v296 v305 (back0 m (peer c)), 8#32⟩))
      ⊢ runs c (k0_part10 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 v2 v6 v9 v50 v296 v305 v309) Q := by
  rw [k0_part10_eq_skeleton]; unfold k0_part10_skel
  simp only [semSignalWord, semWaitWord, Prog.lift, Prog.bind_op, Prog.bind_ret, Prog.pure_eq_ret, wp_deviceId, dev1_eq]
  iintro ⟨#Hw, Hr3, Hr9, Hr4, HO, Hk⟩
  iapply (wp_await m K c 3 [] (wpE_waitDma2_eq 𝒱₀ (c : Thread nD τ) none Set.univ) (by decide)) $$ [Hr3 HO]
  · isplitr; · iexact Hw
    isplitl [Hr3]; · iexact Hr3
    iexact HO
  iintro ⟨Hp3, Hz3, HO⟩
  iapply (wp_await m K c 9 [] (wpE_waitDma2_eq 𝒱₀ (c : Thread nD τ) none Set.univ) (by decide)) $$ [Hr9 HO]
  · isplitr; · iexact Hw
    isplitl [Hr9]; · iexact Hr9
    iexact HO
  iintro ⟨Hp9, Hz9, HO⟩
  ihave Hb3 := (Entails.of_eq (show pay m c 3 = free (F := F) c rs0 from rfl)) $$ Hp3
  ihave Hg := (Entails.of_eq (show pay m c 9 = holds c rr0 (back0 m (peer c)) from rfl)) $$ Hp9
  iapply (wp_loadPiece c (M := rrB) (r := quar0) (fun _ => rfl) (back0 m (peer c))) $$ Hg; iintro Hg
  iapply (wp_await m K c 4 [] (wpE_waitDma2_eq 𝒱₀ (c : Thread nD τ) none Set.univ) (by decide)) $$ [Hr4 HO]
  · isplitr; · iexact Hw
    isplitl [Hr4]; · iexact Hr4
    iexact HO
  iintro ⟨Hp4, Hz4, HO⟩
  ihave Hb4 := (Entails.of_eq (show pay m c 4 = free (F := F) c rs1 from rfl)) $$ Hp4
  rw [runs_ret]; imodintro
  iapply Hk
  isplitl [Hz3]; · iexact Hz3
  isplitl [Hz9]; · iexact Hz9
  isplitl [Hz4]; · iexact Hz4
  isplitl [HO]; · iexact HO
  isplitl [Hb3]; · iexact Hb3
  isplitl [Hg]; · iexact Hg
  iexact Hb4

/-- The peer's second quarter of results arrives. -/
theorem sound_part11 (c : Dev nD) (v2 v6 v9 : BitVec 32) (v305 : FVec F S1024x288 .bf16) (v314 : FVec F S1024x288 .bf16) (v332 : FVec F S1024x1024 .f32) (c8 : BitVec 32) (Q : _ → sProp 𝕄) :
    iprop(world m K ∗ rdy (F := F) c 10 ∗ rdy (F := F) c 5 ∗ rdy (F := F) c 11 ∗ owing (F := F) c []
        ∗ ((closed (F := F) c 10 ∗ closed (F := F) c 5 ∗ closed (F := F) c 11 ∗ owing (F := F) c [] ∗ holds c rr1 (back1 m (peer c)) ∗ free (F := F) c rs2 ∗ holds c rr2 (back2 m (peer c))) -∗ Q ⟨k0_pay26 v305 v332 (back1 m (peer c)), k0_pay27 v314⟩))
      ⊢ runs c (k0_part11 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9 v2 v6 v9 v305 v314 v332 c8) Q := by
  rw [k0_part11_eq_skeleton]; unfold k0_part11_skel
  simp only [semSignalWord, semWaitWord, Prog.lift, Prog.bind_op, Prog.bind_ret, Prog.pure_eq_ret, wp_deviceId, dev1_eq]
  iintro ⟨#Hw, Hr10, Hr5, Hr11, HO, Hk⟩
  iapply (wp_await m K c 10 [] (wpE_waitDma2_eq 𝒱₀ (c : Thread nD τ) none Set.univ) (by decide)) $$ [Hr10 HO]
  · isplitr; · iexact Hw
    isplitl [Hr10]; · iexact Hr10
    iexact HO
  iintro ⟨Hp10, Hz10, HO⟩
  ihave Hg := (Entails.of_eq (show pay m c 10 = holds c rr1 (back1 m (peer c)) from rfl)) $$ Hp10
  iapply (wp_loadPiece c (M := rrB) (r := quar1) (fun _ => rfl) (back1 m (peer c))) $$ Hg; iintro Hg
  iapply (wp_await m K c 5 [] (wpE_waitDma2_eq 𝒱₀ (c : Thread nD τ) none Set.univ) (by decide)) $$ [Hr5 HO]
  · isplitr; · iexact Hw
    isplitl [Hr5]; · iexact Hr5
    iexact HO
  iintro ⟨Hp5, Hz5, HO⟩
  iapply (wp_await m K c 11 [] (wpE_waitDma2_eq 𝒱₀ (c : Thread nD τ) none Set.univ) (by decide)) $$ [Hr11 HO]
  · isplitr; · iexact Hw
    isplitl [Hr11]; · iexact Hr11
    iexact HO
  iintro ⟨Hp11, Hz11, HO⟩
  ihave Hb := (Entails.of_eq (show pay m c 5 = free (F := F) c rs2 from rfl)) $$ Hp5
  ihave Hg2 := (Entails.of_eq (show pay m c 11 = holds c rr2 (back2 m (peer c)) from rfl)) $$ Hp11
  rw [runs_ret]; imodintro
  iapply Hk
  isplitl [Hz10]; · iexact Hz10
  isplitl [Hz5]; · iexact Hz5
  isplitl [Hz11]; · iexact Hz11
  isplitl [HO]; · iexact HO
  isplitl [Hg]; · iexact Hg
  isplitl [Hb]; · iexact Hb
  iexact Hg2

end Cert.Exchange
end
-- ==== Proof.Body.lean ====
/-
# The body of the kernel

The parts in order, from what a device starts with to what it ends with.
-/
module

public import proofs.«01_k».proof.Proof.Parts

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ)

theorem runs_bind (c : Dev nD) {α β : Type} (p : Prog (TpuEff nD τ sig (Elt F) Λ₀ .tc) α) (k : α → Prog (TpuEff nD τ sig (Elt F) Λ₀ .tc) β) (Q : β → sProp 𝕄) :
    runs c (p >>= k) Q = runs c p (fun a => runs c (k a) Q) := wp_bind _ _ _ _ _ _

/-! ## A buffer in pieces -/

omit [FloatOps F] in
/-- A buffer all of whose elements are two pieces' is the two pieces. -/
theorem split_at {ℓ : Loc nD τ sig} {S I J : Finset (Idx ℓ)} (hd : Disjoint I J) (hS : S = I ∪ J) :
    (iprop(∃ f : Buf (Elt F) ℓ, ℓ ↦[S]{fullShare} f) : sProp 𝕄)
      ⊢ iprop((∃ f : Buf (Elt F) ℓ, ℓ ↦[I]{fullShare} f) ∗ (∃ f : Buf (Elt F) ℓ, ℓ ↦[J]{fullShare} f)) := by
  subst hS
  iintro ⟨%f, H⟩
  ihave H := (pointsTo_union hd).1 $$ H
  icases H with ⟨HI, HJ⟩
  isplitl [HI]; · iexists f; iexact HI
  iexists f; iexact HJ

omit [FloatOps F] in
theorem join_at {ℓ : Loc nD τ sig} {S I J : Finset (Idx ℓ)} (hd : Disjoint I J) (hS : S = I ∪ J) :
    (iprop((∃ f : Buf (Elt F) ℓ, ℓ ↦[I]{fullShare} f) ∗ (∃ f : Buf (Elt F) ℓ, ℓ ↦[J]{fullShare} f)) : sProp 𝕄)
      ⊢ iprop(∃ f : Buf (Elt F) ℓ, ℓ ↦[S]{fullShare} f) := by
  subst hS
  iintro ⟨⟨%f, HI⟩, ⟨%g, HJ⟩⟩
  ihave H := (pointsTo_join hd) $$ [HI HJ]
  · isplitl [HI] <;> iassumption
  iexists _; iexact H

/-- Whether an index lies in `n` rows from row `o`. -/
theorem mem_rows {n o : ℕ} {inb : ∀ a, (![o, 0] : Fin 2 → ℕ) a + (![n, 1024] : Fin 2 → ℕ) a ≤ S576x1024.size a} (i : S576x1024.Idx) :
    i ∈ (Rect.unit (s := S576x1024) ![o, 0] ![n, 1024] inb).set ↔ o ≤ (i 0).val ∧ (i 0).val < o + n := by
  rw [Rect.mem_set_unit]
  constructor
  · intro h; exact h 0
  · intro h a
    match a with
    | 0 => exact h
    | 1 => exact ⟨Nat.zero_le _, by show (i 1).val < 0 + 1024; have := (i 1).isLt; simpa using this⟩

theorem mem_half0 (i : S576x1024.Idx) : i ∈ half0.set ↔ 0 ≤ (i 0).val ∧ (i 0).val < 0 + 288 := mem_rows i
theorem mem_half1 (i : S576x1024.Idx) : i ∈ half1.set ↔ 288 ≤ (i 0).val ∧ (i 0).val < 288 + 288 := mem_rows i
theorem mem_quar0 (i : S576x1024.Idx) : i ∈ quar0.set ↔ 0 ≤ (i 0).val ∧ (i 0).val < 0 + 144 := mem_rows i
theorem mem_quar1 (i : S576x1024.Idx) : i ∈ quar1.set ↔ 144 ≤ (i 0).val ∧ (i 0).val < 144 + 144 := mem_rows i
theorem mem_quar2 (i : S576x1024.Idx) : i ∈ quar2.set ↔ 288 ≤ (i 0).val ∧ (i 0).val < 288 + 144 := mem_rows i
theorem mem_quar3 (i : S576x1024.Idx) : i ∈ quar3.set ↔ 432 ≤ (i 0).val ∧ (i 0).val < 432 + 144 := mem_rows i
theorem row_lt (i : S576x1024.Idx) : (i 0).val < 576 := (i 0).isLt

theorem halves_disjoint : Disjoint half0.set half1.set := Finset.disjoint_left.2 fun i h h' => by
  rw [mem_half0] at h; rw [mem_half1] at h'; omega
theorem halves_cover : (Finset.univ : Finset S576x1024.Idx) = half0.set ∪ half1.set := by
  ext i; have := row_lt i; rw [Finset.mem_union, mem_half0, mem_half1]; simp only [Finset.mem_univ, true_iff]; omega
theorem quars_disjoint : Disjoint quar0.set (quar1.set ∪ (quar2.set ∪ quar3.set)) := Finset.disjoint_left.2 fun i h h' => by
  rw [Finset.mem_union, Finset.mem_union, mem_quar1, mem_quar2, mem_quar3] at h'; rw [mem_quar0] at h; omega
theorem quars_disjoint' : Disjoint quar1.set (quar2.set ∪ quar3.set) := Finset.disjoint_left.2 fun i h h' => by
  rw [Finset.mem_union, mem_quar2, mem_quar3] at h'; rw [mem_quar1] at h; omega
theorem quars_disjoint'' : Disjoint quar2.set quar3.set := Finset.disjoint_left.2 fun i h h' => by
  rw [mem_quar3] at h'; rw [mem_quar2] at h; omega
theorem quars_cover : (Finset.univ : Finset S576x1024.Idx) = quar0.set ∪ (quar1.set ∪ (quar2.set ∪ quar3.set)) := by
  ext i; have := row_lt i
  rw [Finset.mem_union, Finset.mem_union, Finset.mem_union, mem_quar0, mem_quar1, mem_quar2, mem_quar3]; simp only [Finset.mem_univ, true_iff]; omega

/-- A buffer at some contents. -/
def some (c : Dev nD) (b : Ref sig .tc) : sProp 𝕄 := iprop(∃ f : Buf (Elt F) ((c : Thread nD τ).loc b), ((c : Thread nD τ).loc b) ↦{fullShare} f)

omit [FloatOps F] in
theorem some_free (c : Dev nD) (b : Ref sig .tc) : some (F := F) c b = free (F := F) c (Memref.whole b) := by
  unfold some free; simp only [Memref.view_whole, View.set_whole]

omit [FloatOps F] in
theorem split_xs (c : Dev nD) : some (F := F) c cc0_scratch0 ⊢ iprop(free (F := F) c xs0 ∗ free (F := F) c xs1) := by
  unfold some free
  simp only [Memref.view_slice, Memref.view_whole, View.set_slice_whole]
  exact split_at halves_disjoint halves_cover
omit [FloatOps F] in
theorem join_xs (c : Dev nD) : iprop(free (F := F) c xs0 ∗ free (F := F) c xs1) ⊢ some (F := F) c cc0_scratch0 := by
  unfold some free
  simp only [Memref.view_slice, Memref.view_whole, View.set_slice_whole]
  exact join_at halves_disjoint halves_cover
omit [FloatOps F] in
theorem split_xr (c : Dev nD) : some (F := F) c cc0_scratch1 ⊢ iprop(free (F := F) c xr0 ∗ free (F := F) c xr1) := by
  unfold some free
  simp only [Memref.view_slice, Memref.view_whole, View.set_slice_whole]
  exact split_at halves_disjoint halves_cover
omit [FloatOps F] in
theorem join_xr (c : Dev nD) : iprop(free (F := F) c xr0 ∗ free (F := F) c xr1) ⊢ some (F := F) c cc0_scratch1 := by
  unfold some free
  simp only [Memref.view_slice, Memref.view_whole, View.set_slice_whole]
  exact join_at halves_disjoint halves_cover
omit [FloatOps F] in
theorem split_ro (c : Dev nD) : some (F := F) c cc0_scratch2 ⊢ iprop(free (F := F) c ro0 ∗ free (F := F) c ro1) := by
  unfold some free
  simp only [Memref.view_slice, Memref.view_whole, View.set_slice_whole]
  exact split_at halves_disjoint halves_cover
omit [FloatOps F] in
theorem join_ro (c : Dev nD) : iprop(free (F := F) c ro0 ∗ free (F := F) c ro1) ⊢ some (F := F) c cc0_scratch2 := by
  unfold some free
  simp only [Memref.view_slice, Memref.view_whole, View.set_slice_whole]
  exact join_at halves_disjoint halves_cover
omit [FloatOps F] in
theorem split_rs (c : Dev nD) : some (F := F) c cc0_scratch3 ⊢ iprop(free (F := F) c rs0 ∗ free (F := F) c rs1 ∗ free (F := F) c rs2 ∗ free (F := F) c rs3) := by
  unfold some free
  simp only [Memref.view_slice, Memref.view_whole, View.set_slice_whole]
  exact (split_at quars_disjoint quars_cover).trans (sep_mono_right ((split_at quars_disjoint' rfl).trans (sep_mono_right (split_at quars_disjoint'' rfl))))
omit [FloatOps F] in
theorem join_rs (c : Dev nD) : iprop(free (F := F) c rs0 ∗ free (F := F) c rs1 ∗ free (F := F) c rs2 ∗ free (F := F) c rs3) ⊢ some (F := F) c cc0_scratch3 := by
  unfold some free
  simp only [Memref.view_slice, Memref.view_whole, View.set_slice_whole]
  exact (sep_mono_right ((sep_mono_right (join_at quars_disjoint'' rfl)).trans (join_at quars_disjoint' rfl))).trans (join_at quars_disjoint quars_cover)
omit [FloatOps F] in
theorem split_rr (c : Dev nD) : some (F := F) c cc0_scratch4 ⊢ iprop(free (F := F) c rr0 ∗ free (F := F) c rr1 ∗ free (F := F) c rr2 ∗ free (F := F) c rr3) := by
  unfold some free
  simp only [Memref.view_slice, Memref.view_whole, View.set_slice_whole]
  exact (split_at quars_disjoint quars_cover).trans (sep_mono_right ((split_at quars_disjoint' rfl).trans (sep_mono_right (split_at quars_disjoint'' rfl))))
omit [FloatOps F] in
theorem join_rr (c : Dev nD) : iprop(free (F := F) c rr0 ∗ free (F := F) c rr1 ∗ free (F := F) c rr2 ∗ free (F := F) c rr3) ⊢ some (F := F) c cc0_scratch4 := by
  unfold some free
  simp only [Memref.view_slice, Memref.view_whole, View.set_slice_whole]
  exact (sep_mono_right ((sep_mono_right (join_at quars_disjoint'' rfl)).trans (join_at quars_disjoint' rfl))).trans (join_at quars_disjoint quars_cover)

/-- An expert's weights may be taken out of the array and put back. -/
theorem take_w10 (c : Dev nD) : ((((c : Thread nD τ).loc main_arg2) ↦{fullShare} (m ((c : Thread nD τ).loc main_arg2))) : sProp 𝕄) ⊢ iprop(lentA c w10 (m ((c : Thread nD τ).loc main_arg2)) ∗ (lentA c w10 (m ((c : Thread nD τ).loc main_arg2)) -∗ (((c : Thread nD τ).loc main_arg2) ↦{fullShare} (m ((c : Thread nD τ).loc main_arg2))))) := by
  unfold lentA
  refine (pointsTo_split_subset (Finset.subset_univ w10.view.set)).1.trans ?_
  iintro ⟨H, Hr⟩
  isplitl [H]; · iexact H
  iintro H
  iapply (pointsTo_split_subset (Finset.subset_univ w10.view.set)).2
  isplitl [H] <;> iassumption

/-- An expert's weights may be taken out of the array and put back. -/
theorem take_w11 (c : Dev nD) : ((((c : Thread nD τ).loc main_arg2) ↦{fullShare} (m ((c : Thread nD τ).loc main_arg2))) : sProp 𝕄) ⊢ iprop(lentA c w11 (m ((c : Thread nD τ).loc main_arg2)) ∗ (lentA c w11 (m ((c : Thread nD τ).loc main_arg2)) -∗ (((c : Thread nD τ).loc main_arg2) ↦{fullShare} (m ((c : Thread nD τ).loc main_arg2))))) := by
  unfold lentA
  refine (pointsTo_split_subset (Finset.subset_univ w11.view.set)).1.trans ?_
  iintro ⟨H, Hr⟩
  isplitl [H]; · iexact H
  iintro H
  iapply (pointsTo_split_subset (Finset.subset_univ w11.view.set)).2
  isplitl [H] <;> iassumption

/-- An expert's weights may be taken out of the array and put back. -/
theorem take_w20 (c : Dev nD) : ((((c : Thread nD τ).loc main_arg3) ↦{fullShare} (m ((c : Thread nD τ).loc main_arg3))) : sProp 𝕄) ⊢ iprop(lentB c w20 (m ((c : Thread nD τ).loc main_arg3)) ∗ (lentB c w20 (m ((c : Thread nD τ).loc main_arg3)) -∗ (((c : Thread nD τ).loc main_arg3) ↦{fullShare} (m ((c : Thread nD τ).loc main_arg3))))) := by
  unfold lentB
  refine (pointsTo_split_subset (Finset.subset_univ w20.view.set)).1.trans ?_
  iintro ⟨H, Hr⟩
  isplitl [H]; · iexact H
  iintro H
  iapply (pointsTo_split_subset (Finset.subset_univ w20.view.set)).2
  isplitl [H] <;> iassumption

/-- An expert's weights may be taken out of the array and put back. -/
theorem take_w21 (c : Dev nD) : ((((c : Thread nD τ).loc main_arg3) ↦{fullShare} (m ((c : Thread nD τ).loc main_arg3))) : sProp 𝕄) ⊢ iprop(lentB c w21 (m ((c : Thread nD τ).loc main_arg3)) ∗ (lentB c w21 (m ((c : Thread nD τ).loc main_arg3)) -∗ (((c : Thread nD τ).loc main_arg3) ↦{fullShare} (m ((c : Thread nD τ).loc main_arg3))))) := by
  unfold lentB
  refine (pointsTo_split_subset (Finset.subset_univ w21.view.set)).1.trans ?_
  iintro ⟨H, Hr⟩
  isplitl [H]; · iexact H
  iintro H
  iapply (pointsTo_split_subset (Finset.subset_univ w21.view.set)).2
  isplitl [H] <;> iassumption

/-! ## The body -/

/-- What a device's body starts with, beside the buffers: its own cells and the tokens of its duties. -/
def kit (c : Dev nD) : sProp 𝕄 :=
  iprop(armed (F := F) c 1 ∗ armed (F := F) c 2 ∗ armed (F := F) c 3 ∗ armed (F := F) c 4 ∗ armed (F := F) c 5 ∗ armed (F := F) c 6 ∗ armed (F := F) c 13 ∗ armed (F := F) c 14 ∗ armed (F := F) c 15 ∗ armed (F := F) c 16
    ∗ rdy (F := F) c 0 ∗ rdy (F := F) c 7 ∗ rdy (F := F) c 8 ∗ rdy (F := F) c 9 ∗ rdy (F := F) c 10 ∗ rdy (F := F) c 11 ∗ rdy (F := F) c 12
    ∗ ticket (F := F) c 0 ∗ ticket (F := F) c 7 ∗ ticket (F := F) c 8 ∗ ticket (F := F) c 9 ∗ ticket (F := F) c 10 ∗ ticket (F := F) c 11 ∗ ticket (F := F) c 12)

/-- Every cell closed. -/
def shut (c : Dev nD) : sProp 𝕄 :=
  iprop(closed (F := F) c 0 ∗ closed (F := F) c 1 ∗ closed (F := F) c 2 ∗ closed (F := F) c 3 ∗ closed (F := F) c 4 ∗ closed (F := F) c 5 ∗ closed (F := F) c 6 ∗ closed (F := F) c 7 ∗ closed (F := F) c 8 ∗ closed (F := F) c 9 ∗ closed (F := F) c 10 ∗ closed (F := F) c 11 ∗ closed (F := F) c 12 ∗ closed (F := F) c 13 ∗ closed (F := F) c 14 ∗ closed (F := F) c 15 ∗ closed (F := F) c 16)

/-- The seven scratch buffers at some contents. -/
def scratch (c : Dev nD) : sProp 𝕄 :=
  iprop(some (F := F) c cc0_scratch0 ∗ some (F := F) c cc0_scratch1 ∗ some (F := F) c cc0_scratch2 ∗ some (F := F) c cc0_scratch3 ∗ some (F := F) c cc0_scratch4 ∗ some (F := F) c cc0_scratch5 ∗ some (F := F) c cc0_scratch6)

/-- The two weight arrays as they were at launch. -/
def weights (c : Dev nD) : sProp 𝕄 :=
  iprop((((c : Thread nD τ).loc main_arg2) ↦{fullShare} (m ((c : Thread nD τ).loc main_arg2))) ∗ (((c : Thread nD τ).loc main_arg3) ↦{fullShare} (m ((c : Thread nD τ).loc main_arg3))))

/-- The result of a device, as the parts of the body hand it on. -/
theorem out_eq (c : Dev nD) : outv m c =
    k0_pay28 (k0_pay24 (k0_pay2 (Dev.word c) 2#32 4#32 (ain m c)) (k0_pay23 (k0_pay3 (Dev.word c) 2#32 4#32 (ain m c)) (iota .tc S1024x288 32 [1] iota_S1024x288_d1_w32)))
      (k0_pay26 (k0_pay22 (k0_pay2 (Dev.word c) 2#32 4#32 (ain m c)) (k0_pay3 (Dev.word c) 2#32 4#32 (ain m c)) (iota .tc S1024x288 32 [1] iota_S1024x288_d1_w32)) (k0_pay25 (k0_pay21 (k0_pay8 (k0_pay2 (Dev.word c) 2#32 4#32 (ain m c)) (k0_pay3 (Dev.word c) 2#32 4#32 (ain m c)) (iota .tc S1024x288 32 [1] iota_S1024x288_d1_w32)) (k0_pay16 (k0_pay2 (Dev.word c) 2#32 4#32 (ain m c)) (k0_pay3 (Dev.word c) 2#32 4#32 (ain m c)) (iota .tc S1024x288 32 [1] iota_S1024x288_d1_w32))
          (k0_pay10 (k0_pay1 (xin m c)) (k0_pay6 (wA0 m c)) (k0_pay7 (wB0 m c)) (k0_pay8 (k0_pay2 (Dev.word c) 2#32 4#32 (ain m c)) (k0_pay3 (Dev.word c) 2#32 4#32 (ain m c)) (iota .tc S1024x288 32 [1] iota_S1024x288_d1_w32)) (toks0 m (peer c)))
          (k0_pay18 (k0_pay1 (xin m c)) (k0_pay14 (wA1 m c)) (k0_pay15 (wB1 m c)) (k0_pay16 (k0_pay2 (Dev.word c) 2#32 4#32 (ain m c)) (k0_pay3 (Dev.word c) 2#32 4#32 (ain m c)) (iota .tc S1024x288 32 [1] iota_S1024x288_d1_w32)) (toks1 m (peer c)))) (k0_pay22 (k0_pay2 (Dev.word c) 2#32 4#32 (ain m c)) (k0_pay3 (Dev.word c) 2#32 4#32 (ain m c)) (iota .tc S1024x288 32 [1] iota_S1024x288_d1_w32)) (back0 m (peer c)))
        (back1 m (peer c)))
      (k0_pay27 (k0_pay24 (k0_pay2 (Dev.word c) 2#32 4#32 (ain m c)) (k0_pay23 (k0_pay3 (Dev.word c) 2#32 4#32 (ain m c)) (iota .tc S1024x288 32 [1] iota_S1024x288_d1_w32)))) (back2 m (peer c)) (back3 m (peer c)) := rfl

set_option maxHeartbeats 800000 in
/-- The part of the body that comes before the result is stored. -/
theorem sound_part12 (c : Dev nD) (Q : _ → sProp 𝕄) :
    iprop(world m K ∗ kit (F := F) c ∗ weights m c ∗ scratch (F := F) c ∗ owing (F := F) c dues₀ ∗ holds c xM (xin m c) ∗ holds c aM (ain m c) ∗ free (F := F) c oM
        ∗ ((shut (F := F) c ∗ weights m c ∗ scratch (F := F) c ∗ owing (F := F) c [] ∗ holds c xM (xin m c) ∗ holds c aM (ain m c) ∗ free (F := F) c oM) -∗ Q (outv m c)))
      ⊢ runs c (k0_part12 xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9) Q := by
  rw [k0_part12_eq_skeleton]; unfold k0_part12_skel
  have hout : outv m c = _ := out_eq m c
  rw [hout]
  unfold kit weights scratch
  iintro ⟨#Hw, ⟨Ha1, Ha2, Ha3, Ha4, Ha5, Ha6, Ha13, Ha14, Ha15, Ha16, Hr0, Hr7, Hr8, Hr9, Hr10, Hr11, Hr12, Ht0, Ht7, Ht8, Ht9, Ht10, Ht11, Ht12⟩, ⟨HW1, HW2⟩, ⟨HB0, HB1, HB2, HB3, HB4, HB5, HB6⟩, HO, Hx, Ha, Hout, Hk⟩
  ihave HB0 := (split_xs c) $$ HB0
  icases HB0 with ⟨Hxs0, Hxs1⟩
  ihave HB1 := (split_xr c) $$ HB1
  icases HB1 with ⟨Hxr0, Hxr1⟩
  ihave HB2 := (split_ro c) $$ HB2
  icases HB2 with ⟨Hro0, Hro1⟩
  ihave HB3 := (split_rs c) $$ HB3
  icases HB3 with ⟨Hrs0, Hrs1, Hrs2, Hrs3⟩
  ihave HB4 := (split_rr c) $$ HB4
  icases HB4 with ⟨Hrr0, Hrr1, Hrr2, Hrr3⟩
  ihave Hs1 := (Entails.of_eq (some_free c cc0_scratch5)) $$ HB5
  ihave Hs2 := (Entails.of_eq (some_free c cc0_scratch6)) $$ HB6
  ihave HW1 := (take_w10 m c) $$ HW1
  icases HW1 with ⟨Hw10, HW1⟩
  ihave HW2 := (take_w20 m c) $$ HW2
  icases HW2 with ⟨Hw20, HW2⟩
  ihave Hl : landings (F := F) c $$ [Hxr0 Hxr1 Hrr0 Hrr1 Hrr2 Hrr3]
  · unfold landings
    isplitl [Hxr0]; · iexact Hxr0
    isplitl [Hxr1]; · iexact Hxr1
    isplitl [Hrr0]; · iexact Hrr0
    isplitl [Hrr1]; · iexact Hrr1
    isplitl [Hrr2]; · iexact Hrr2
    iexact Hrr3
  rw [runs_bind]
  iapply (sound_part1 m K c _)
  isplitr; · iexact Hw
  isplitl [Ha13]; · iexact Ha13
  isplitl [Ha14]; · iexact Ha14
  isplitl [Hw10]; · iexact Hw10
  isplitl [Hw20]; · iexact Hw20
  isplitl [Hs1]; · iexact Hs1
  isplitl [Hs2]; · iexact Hs2
  isplitl [Ht0]; · iexact Ht0
  isplitl [Hl]; · iexact Hl
  isplitl [Hr0]; · iexact Hr0
  isplitl [HO]; · iexact HO
  isplitl [Hx]; · iexact Hx
  iintro %v2 %v6 %v9 ⟨Hr13, Hr14, Hp0, Hz0, HO, Hx⟩
  ihave Hp0 := (Entails.of_eq (show pay m c 0 = landings (F := F) (peer c) from rfl)) $$ Hp0
  unfold landings
  icases Hp0 with ⟨Hq0, Hq1, Hu0, Hu1, Hu2, Hu3⟩
  rw [runs_bind]
  iapply (sound_part2 m K c _ _ _ _ _)
  isplitr; · iexact Hw
  isplitl [Ha]; · iexact Ha
  isplitl [Hxs0]; · iexact Hxs0
  iintro ⟨Ha, Hxs0⟩
  ihave Hxs0 := (Entails.of_eq (show holds c xs0 (k0_pay4 (k0_pay1 (xin m c)) (Dev.word c) 2#32 4#32 (ain m c)) = holds c xs0 (toks0 m c) from rfl)) $$ Hxs0
  rw [runs_bind]
  iapply (sound_part3 m K c _ _ _ _ _ _ _ _)
  isplitr; · iexact Hw
  isplitl [Ha1]; · iexact Ha1
  isplitl [Ht7]; · iexact Ht7
  isplitl [Hxs0]; · iexact Hxs0
  isplitl [Hq0]; · iexact Hq0
  isplitl [Hxs1]; · iexact Hxs1
  isplitl [HO]; · iexact HO
  iintro ⟨Hr1, Hxs1, HO⟩
  ihave Hxs1 := (Entails.of_eq (show holds c xs1 (k0_pay5 (k0_pay1 (xin m c)) (k0_pay2 (Dev.word c) 2#32 4#32 (ain m c)) (k0_pay3 (Dev.word c) 2#32 4#32 (ain m c)) (iota .tc S1024x288 32 [1] iota_S1024x288_d1_w32)) = holds c xs1 (toks1 m c) from rfl)) $$ Hxs1
  rw [runs_bind]
  iapply (sound_part4 m K c _ _ _ _)
  isplitr; · iexact Hw
  isplitl [Ha2]; · iexact Ha2
  isplitl [Ht8]; · iexact Ht8
  isplitl [Hxs1]; · iexact Hxs1
  isplitl [Hq1]; · iexact Hq1
  isplitl [HO]; · iexact HO
  isplitl [Hr13]; · iexact Hr13
  isplitl [Hr14]; · iexact Hr14
  isplitl [Ha15]; · iexact Ha15
  isplitl [Ha16]; · iexact Ha16
  isplitl [HW1]
  · iintro H
    ihave HW1 := HW1 $$ H
    iapply (take_w11 m c); iexact HW1
  isplitl [HW2]
  · iintro H
    ihave HW2 := HW2 $$ H
    iapply (take_w21 m c); iexact HW2
  iintro ⟨Hr2, HO, Hz13, Hz14, Hr15, Hr16, HW1, HW2⟩
  rw [runs_bind]
  iapply (sound_part5 m K c _ _ _ _ _ _ _ _)
  isplitr; · iexact Hw
  isplitl [Hr1]; · iexact Hr1
  isplitl [Hr7]; · iexact Hr7
  isplitl [HO]; · iexact HO
  isplitl [Hro0]; · iexact Hro0
  isplitl [Hrs0]; · iexact Hrs0
  iintro %y ⟨Hxs0, Hxr0, Hz1, Hz7, HO, Hro0, Hrs0⟩
  rw [runs_bind]
  iapply (sound_part6 m K c _ _ _ _ _ _ _ rfl rfl _)
  isplitr; · iexact Hw
  isplitl [Ha3]; · iexact Ha3
  isplitl [Ha4]; · iexact Ha4
  isplitl [Ht9]; · iexact Ht9
  isplitl [Ht10]; · iexact Ht10
  isplitl [Hu0]; · iexact Hu0
  isplitl [Hu1]; · iexact Hu1
  isplitl [Hrs0]; · iexact Hrs0
  isplitl [Hrs1]; · iexact Hrs1
  isplitl [HO]; · iexact HO
  iintro ⟨Hr3, Hr4, HO⟩
  rw [runs_bind]
  iapply (sound_part7 m K c _ _ _ _ _ _ _)
  isplitr; · iexact Hw
  isplitl [Hr15]; · iexact Hr15
  isplitl [Hr16]; · iexact Hr16
  isplitl [Hr2]; · iexact Hr2
  isplitl [HO]; · iexact HO
  iintro ⟨Hz15, Hz16, Hz2, HO, Hxs1, Hs1, Hs2, Hw11, Hw21⟩
  ihave HW1 := HW1 $$ Hw11
  ihave HW2 := HW2 $$ Hw21
  rw [runs_bind]
  iapply (sound_part8 m K c _ _ _ _ _ _ _ _)
  isplitr; · iexact Hw
  isplitl [Hr8]; · iexact Hr8
  isplitl [HO]; · iexact HO
  isplitl [Hro1]; · iexact Hro1
  isplitl [Hrs2]; · iexact Hrs2
  iintro ⟨Hxr1, Hz8, HO, Hro1, Hrs2⟩
  ihave Hrs2 := (Entails.of_eq (show holds c rs2 (k0_pay19 (k0_pay1 (xin m c)) (k0_pay14 (wA1 m c)) (k0_pay15 (wB1 m c)) (k0_pay16 (k0_pay2 (Dev.word c) 2#32 4#32 (ain m c)) (k0_pay3 (Dev.word c) 2#32 4#32 (ain m c)) (iota .tc S1024x288 32 [1] iota_S1024x288_d1_w32)) (toks1 m (peer c))) = holds c rs2 (back2 m c) from rfl)) $$ Hrs2
  rw [runs_bind]
  iapply (sound_part9 m K c _ _ _ _ _ _ _ _ _ _ _ _ rfl _)
  isplitr; · iexact Hw
  isplitl [Ha5]; · iexact Ha5
  isplitl [Ha6]; · iexact Ha6
  isplitl [Ht11]; · iexact Ht11
  isplitl [Ht12]; · iexact Ht12
  isplitl [Hu2]; · iexact Hu2
  isplitl [Hu3]; · iexact Hu3
  isplitl [Hrs2]; · iexact Hrs2
  isplitl [Hrs3]; · iexact Hrs3
  isplitl [HO]; · iexact HO
  isplitl [Hro0]; · iexact Hro0
  isplitl [Hro1]; · iexact Hro1
  iintro ⟨Hr5, Hr6, HO, Hro0, Hro1⟩
  rw [runs_bind]
  iapply (sound_part10 m K c _ _ _ _ _ _ _ _)
  isplitr; · iexact Hw
  isplitl [Hr3]; · iexact Hr3
  isplitl [Hr9]; · iexact Hr9
  isplitl [Hr4]; · iexact Hr4
  isplitl [HO]; · iexact HO
  iintro ⟨Hz3, Hz9, Hz4, HO, Hrs0, Hrr0, Hrs1⟩
  rw [runs_bind]
  iapply (sound_part11 m K c _ _ _ _ _ _ _ _)
  isplitr; · iexact Hw
  isplitl [Hr10]; · iexact Hr10
  isplitl [Hr5]; · iexact Hr5
  isplitl [Hr11]; · iexact Hr11
  isplitl [HO]; · iexact HO
  iintro ⟨Hz10, Hz5, Hz11, HO, Hrr1, Hrs2, Hrr2⟩
  simp only [Prog.lift, Prog.bind_op, Prog.bind_ret, Prog.pure_eq_ret]
  iapply (wp_loadPiece c (M := rrB) (r := quar2) (fun _ => rfl) (back2 m (peer c))) $$ Hrr2; iintro Hrr2
  iapply (wp_await m K c 6 [] (wpE_waitDma2_eq 𝒱₀ (c : Thread nD τ) none Set.univ) (by decide)) $$ [Hr6 HO]
  · isplitr; · iexact Hw
    isplitl [Hr6]; · iexact Hr6
    iexact HO
  iintro ⟨Hp6, Hz6, HO⟩
  iapply (wp_await m K c 12 [] (wpE_waitDma2_eq 𝒱₀ (c : Thread nD τ) none Set.univ) (by decide)) $$ [Hr12 HO]
  · isplitr; · iexact Hw
    isplitl [Hr12]; · iexact Hr12
    iexact HO
  iintro ⟨Hp12, Hz12, HO⟩
  ihave Hrs3 := (Entails.of_eq (show pay m c 6 = free (F := F) c rs3 from rfl)) $$ Hp6
  ihave Hrr3 := (Entails.of_eq (show pay m c 12 = holds c rr3 (back3 m (peer c)) from rfl)) $$ Hp12
  iapply (wp_loadPiece c (M := rrB) (r := quar3) (fun _ => rfl) (back3 m (peer c))) $$ Hrr3; iintro Hrr3
  ihave Hout := (free_holds c _) $$ Hout
  icases Hout with ⟨%d, Hout⟩
  iapply (wp_loadAll c (M := oM) d d (fun f hf => (Memref.readAt_unit_zero (Elt F) cc0_stg2_0 zero2 _ f).trans ((View.read_whole cc0_stg2_0 f).symm.trans hf)) (View.set_whole _)) $$ Hout; iintro Hout
  ihave Hout := (holds_free c _ _) $$ Hout
  rw [runs_ret]; imodintro
  iapply Hk
  isplitl [Hz0 Hz1 Hz2 Hz3 Hz4 Hz5 Hz6 Hz7 Hz8 Hz9 Hz10 Hz11 Hz12 Hz13 Hz14 Hz15 Hz16]
  · unfold shut
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    iexact Hz16
  isplitl [HW1 HW2]
  · isplitl [HW1] <;> iassumption
  isplitl [Hxs0 Hxs1 Hxr0 Hxr1 Hro0 Hro1 Hrs0 Hrs1 Hrs2 Hrs3 Hrr0 Hrr1 Hrr2 Hrr3 Hs1 Hs2]
  · isplitl [Hxs0 Hxs1]
    · iapply (join_xs c)
      isplitl [Hxs0]; · iexact Hxs0
      iexact Hxs1
    isplitl [Hxr0 Hxr1]
    · iapply (join_xr c)
      isplitl [Hxr0]; · iapply (holds_free c _ _); iexact Hxr0
      iapply (holds_free c _ _); iexact Hxr1
    isplitl [Hro0 Hro1]
    · iapply (join_ro c)
      isplitl [Hro0]; · iapply (holds_free c _ _); iexact Hro0
      iapply (holds_free c _ _); iexact Hro1
    isplitl [Hrs0 Hrs1 Hrs2 Hrs3]
    · iapply (join_rs c)
      isplitl [Hrs0]; · iexact Hrs0
      isplitl [Hrs1]; · iexact Hrs1
      isplitl [Hrs2]; · iexact Hrs2
      iexact Hrs3
    isplitl [Hrr0 Hrr1 Hrr2 Hrr3]
    · iapply (join_rr c)
      isplitl [Hrr0]; · iapply (holds_free c _ _); iexact Hrr0
      isplitl [Hrr1]; · iapply (holds_free c _ _); iexact Hrr1
      isplitl [Hrr2]; · iapply (holds_free c _ _); iexact Hrr2
      iapply (holds_free c _ _); iexact Hrr3
    isplitl [Hs1]; · iapply (Entails.of_eq (some_free c cc0_scratch5).symm); iexact Hs1
    iapply (Entails.of_eq (some_free c cc0_scratch6).symm); iexact Hs2
  isplitl [HO]; · iexact HO
  isplitl [Hx]; · iexact Hx
  isplitl [Ha]; · iexact Ha
  iexact Hout

/-- The body of the kernel on device `c`: from the cells armed, the buffers and the staged blocks, to every cell closed,
    the weights as they were, and `outv m c` in the result's staging buffer. -/
theorem sound_body (c : Dev nD) (Q : PUnit → sProp 𝕄) :
    iprop(world m K ∗ kit (F := F) c ∗ weights m c ∗ scratch (F := F) c ∗ owing (F := F) c dues₀ ∗ holds c xM (xin m c) ∗ holds c aM (ain m c) ∗ free (F := F) c oM
        ∗ ((shut (F := F) c ∗ weights m c ∗ scratch (F := F) c ∗ owing (F := F) c [] ∗ holds c xM (xin m c) ∗ holds c aM (ain m c) ∗ holds c oM (outv m c)) -∗ Q ⟨⟩))
      ⊢ runs c (cc0_body xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9) Q := by
  rw [cc0_body_eq_skeleton]; unfold cc0_body_skel
  rw [runs_bind]
  iintro ⟨#Hw, H1, H2, H3, H4, H5, H6, H7, Hk⟩
  iapply (sound_part12 m K c _)
  isplitr; · iexact Hw
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  simp only [Prog.lift, Prog.bind_op, Prog.bind_ret, Prog.pure_eq_ret]
  iapply (wp_storeAll c (M := oM) (outv m c) (fun f => (View.read_whole cc0_stg2_0 _).trans (Memref.write_access_unit_zero_univ (Elt F) cc0_stg2_0 zero2 _ f (outv m c))) (View.set_whole _)) $$ H7
  iintro H7
  rw [runs_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

end Cert.Exchange
end
-- ==== Proof.Launch.lean ====
/-
# The launch, and the run of the kernel
-/
module

public import proofs.«01_k».proof.Proof.Body
public import Idealize.ShloMosaic.Lib.Pipeline.CollectiveSegs

@[expose] public section

set_option maxRecDepth 10000

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the one grid point finds and leaves -/

/-- A device's ghost state at its start: the records every device shares, at some names of the invariants, and its kit. -/
def start (c : Dev nD) : sProp 𝕄 := iprop(∃ K, world m K ∗ kit (F := F) c)

/-- Before the body. -/
def Φ₀ (c : Dev nD) : sProp 𝕄 := iprop(start m c ∗ weights m c ∗ scratch (F := F) c)
/-- After the body. -/
def Φ₁ (c : Dev nD) : sProp 𝕄 := iprop(shut (F := F) c ∗ weights m c ∗ scratch (F := F) c)

/-- The proof data of the call: the arrays as launched, the tokens and assignments left in place, the result written. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => ain m c
    | ⟨2, _⟩ => outv m c
  Φ t := match t with
    | ⟨0, _⟩ => Φ₀ m c
    | ⟨_ + 1, _⟩ => Φ₁ m c
  q _ := fullShare
  owed t := match t with
    | ⟨0, _⟩ => due c dues₀
    | ⟨_ + 1, _⟩ => 0

theorem fetch_in0 (t : Fin cfg0.N) : (cfg0.win (0 : Fin 3)).fetch t = true := by rw [fin_N0 t]; rfl
theorem fetch_in1 (t : Fin cfg0.N) : (cfg0.win (1 : Fin 3)).fetch t = true := by rw [fin_N0 t]; rfl

/-- The staged blocks are what the launch put in the arrays. -/
theorem before_x (c : Dev nD) (d) : (dats m ρ 0 c).before (0 : Fin 3) t0_0 d = xin m c := by
  unfold Dat.before; rw [if_pos (fetch_in0 t0_0)]; rfl
theorem before_a (c : Dev nD) (d) : (dats m ρ 0 c).before (1 : Fin 3) t0_0 d = ain m c := by
  unfold Dat.before; rw [if_pos (fetch_in1 t0_0)]; rfl

def found (c : Dev nD) : sProp 𝕄 :=
  iprop(Φ₀ m c ∗ (dats m ρ 0 c).owesAt () t0_0.castSucc
    ∗ (∃ d, holds c xM ((dats m ρ 0 c).before (0 : Fin 3) t0_0 d))
    ∗ (∃ d, holds c aM ((dats m ρ 0 c).before (1 : Fin 3) t0_0 d))
    ∗ (∃ d, holds c oM ((dats m ρ 0 c).before (2 : Fin 3) t0_0 d)))

def left (c : Dev nD) : sProp 𝕄 :=
  iprop(Φ₁ m c ∗ (dats m ρ 0 c).owesAt () t0_0.succ ∗ holds c xM (xin m c) ∗ holds c aM (ain m c) ∗ holds c oM (outv m c))

/-- The body from what it finds to what it leaves. -/
theorem found_left (c : Dev nD) : found m ρ c ⊢ runs c (cc0_body xM (Memref.isWhole_whole _) aM (Memref.isWhole_whole _) w1A (Memref.isWhole_whole _) w2A (Memref.isWhole_whole _) oM (Memref.isWhole_whole _)
        xsB (Memref.isWhole_whole _) xrB (Memref.isWhole_whole _) roB (Memref.isWhole_whole _) rsB (Memref.isWhole_whole _) rrB (Memref.isWhole_whole _)
        s1M (Memref.isWhole_whole _) s2M (Memref.isWhole_whole _) cc0_scratch7 cc0_scratch8 cc0_scratch9) (fun _ => left m ρ c) := by
  unfold found Φ₀ start
  iintro ⟨⟨⟨%K, #Hw, Hk⟩, HW, HS⟩, Ho, ⟨%d0, Hx⟩, ⟨%d1, Ha⟩, ⟨%d2, Hout⟩⟩
  rw [before_x, before_a]
  iapply (sound_body m K c (fun _ => left m ρ c))
  isplitr; · iexact Hw
  isplitl [Hk]; · iexact Hk
  isplitl [HW]; · iexact HW
  isplitl [HS]; · iexact HS
  isplitl [Ho]
  · unfold Dat.owesAt Pipeline.owesWithin owing
    icases Ho with ⟨%W, %hW, HO⟩
    iexists W; iexact HO
  isplitl [Hx]; · iexact Hx
  isplitl [Ha]; · iexact Ha
  isplitl [Hout]; · iapply (holds_free c oM _); iexact Hout
  iintro ⟨Hz, HW, HS, HO, Hx, Ha, Hout⟩
  unfold left Φ₁
  isplitl [Hz HW HS]
  · isplitl [Hz]; · iexact Hz
    isplitl [HW] <;> iassumption
  isplitl [HO]
  · unfold Dat.owesAt Pipeline.owesWithin owing
    icases HO with ⟨%W, HO⟩
    iexists W
    isplitr; · ipureintro; exact fun _ _ => Or.inl trivial
    iexact HO
  isplitl [Hx]; · iexact Hx
  isplitl [Ha] <;> iassumption

/-- The library's obligation for the body on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  exact found_left m ρ c

/-! ## The ghost state at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of the exchange. -/
def allCells : Finset (GSem nD τ sig) := Finset.univ.map ⟨kcell, kcell_injective⟩
/-- All duties: one per cell. -/
def allToks : Finset (GSem nD τ sig × ℕ × Unit) :=
  Finset.univ.map ⟨fun ck : Dev nD × Fin 17 => (kcell ck, 0, ()), fun _ _ h => kcell_injective (congrArg Prod.fst h)⟩

def u₀ : UU := (initOf (Pipeline.cells cfgs cellOf_inj) (Pipeline.launchToks cfgs cellOf_inj), initOf allCells allToks)

/-- The positions of a device's cells, -/
def seats (c : Dev nD) : sProp 𝕄 := bigSep Finset.univ fun k : Fin 17 => atPos ER (kcell (c, k)) 0 ∅ 0
/-- and the tokens of their duties. -/
def minted (c : Dev nD) : sProp 𝕄 := bigSep Finset.univ fun k : Fin 17 => dutyTok ER (kcell (c, k)) 0 ()
def G (c : Dev nD) : sProp 𝕄 :=
  iprop((bigSep Finset.univ fun k : Fin 17 => roundState ER (sched m) (kcell (c, k)) 0) ∗ seats (F := F) c
    ∗ (bigSep Finset.univ fun k : Fin 17 => reached ER (kcell (c, k)) 0) ∗ minted (F := F) c)

/-- A device pays the duties of its departures and of its own copies, and of the barrier and the arrivals of its peer. -/
def payee (c : Dev nD) (k : Fin 17) : Dev nD := if k = 0 ∨ 7 ≤ k.val ∧ k.val ≤ 12 then peer c else c
def dealt (c : Dev nD) : sProp 𝕄 := bigSep Finset.univ fun k : Fin 17 => dutyTok ER (kcell (payee c k, k)) 0 ()

/-- The invariants and the first rounds of all cells. -/
def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)
instance records_persistent (K : Dev nD × Fin 17 → ℕ) : BI.Persistent (records m K) := by unfold records; infer_instance

def G' (c : Dev nD) : sProp 𝕄 := iprop(∃ K, records m K ∗ seats (F := F) c ∗ dealt (F := F) c)

omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-- The launch element yields every device's share. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · unfold seats; iexact Hat
  isplitl [Hr]; · iexact Hr
  iexact Htok

omit [FloatOps F] in
/-- The sixteen semaphores the kernel allocates, closed, -/
theorem ownSems_eq (c : Dev nD) : (Pipeline.ownSems0 (Ix := Unit) (Name := ℕ) (U := UU) (Lvl := ℕ) (Val := Elt F) (τ := τ) osem c : sProp 𝕄)
    = iprop(closed (F := F) c 1 ∗ closed (F := F) c 2 ∗ closed (F := F) c 3 ∗ closed (F := F) c 4 ∗ closed (F := F) c 5 ∗ closed (F := F) c 6 ∗ closed (F := F) c 7 ∗ closed (F := F) c 8 ∗ closed (F := F) c 9 ∗ closed (F := F) c 10 ∗ closed (F := F) c 11 ∗ closed (F := F) c 12 ∗ closed (F := F) c 13 ∗ closed (F := F) c 14 ∗ closed (F := F) c 15 ∗ closed (F := F) c 16) := by
  rw [Pipeline.ownSems0_eq_of_list c osem [0, 1, 2, 3, 4, 5, 6, 7, 8, 9, 10, 11, 12, 13, 14, 15] (by decide) (by decide)]; rfl
omit [FloatOps F] in
/-- and the barrier's, the one that the launch does not scope. -/
theorem unscopedSems_eq (c : Dev nD) : (unscopedSems0 c : sProp 𝕄) = closed (F := F) c 0 := by
  unfold unscopedSems0; rw [bigSep_eq_bigSepL_of_eq [SemLoc.reg barS] (by decide) (by decide)]; rfl

omit [FloatOps F] in
theorem sems_eq (c : Dev nD) : iprop((Pipeline.ownSems0 (Ix := Unit) (Name := ℕ) (U := UU) (Lvl := ℕ) (Val := Elt F) (τ := τ) osem c : sProp 𝕄) ∗ unscopedSems0 c) ⊢ (bigSep Finset.univ fun k : Fin 17 => semVal (kcell (c, k)) 0 : sProp 𝕄) := by
  rw [ownSems_eq, unscopedSems_eq, bigSep_fin17]
  unfold closed
  iintro ⟨H, HB⟩
  isplitl [HB]; · iexact HB
  iexact H

/-- A device's invariants allocated from its counters at zero. -/
theorem alloc (c : Dev nD) :
    iprop((Pipeline.ownSems0 (Ix := Unit) (Name := ℕ) (U := UU) (Lvl := ℕ) (Val := Elt F) (τ := τ) osem c : sProp 𝕄) ∗ unscopedSems0 c ∗ G m c)
      ⊢ |={Set.univ}=> iprop((bigSep Finset.univ fun k : Fin 17 => iprop(∃ κ : ℕ, cellInv ER (sched m) κ (kcell (c, k))))
          ∗ seats (F := F) c ∗ (bigSep Finset.univ fun k : Fin 17 => reached ER (kcell (c, k)) 0) ∗ minted (F := F) c) := by
  unfold G
  iintro ⟨Hos, Hus, Hst, Hrest⟩
  ihave Hv := (sems_eq (F := F) c) $$ [Hos Hus]
  · isplitl [Hos] <;> iassumption
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv] <;> iassumption

theorem payee_payee (c : Dev nD) (k : Fin 17) : payee (payee c k) k = c := by
  unfold payee
  by_cases hk : k = 0 ∨ 7 ≤ k.val ∧ k.val ≤ 12
  · simp only [if_pos hk, peer_peer]
  · simp only [if_neg hk]

/-- The cells permuted: those of the barrier and of the arrivals change places between peers. -/
def trade : Dev nD × Fin 17 ≃ Dev nD × Fin 17 where
  toFun ck := (payee ck.1 ck.2, ck.2)
  invFun ck := (payee ck.1 ck.2, ck.2)
  left_inv ck := by simp only [payee_payee]
  right_inv ck := by simp only [payee_payee]

omit [FloatOps F] in
/-- The tokens dealt to the devices that pay. -/
theorem deal : (bigSep Finset.univ fun c : Dev nD => (minted c : sProp 𝕄)) = bigSep Finset.univ fun c : Dev nD => dealt c := by
  unfold minted dealt
  rw [← bigSep_univ_prod (fun ck : Dev nD × Fin 17 => (dutyTok ER (kcell ck) 0 () : sProp 𝕄))]
  exact (bigSep_univ_equiv trade fun ck : Dev nD × Fin 17 => (dutyTok ER (kcell ck) 0 () : sProp 𝕄)).trans
    (bigSep_univ_prod fun ck : Dev nD × Fin 17 => (dutyTok ER (kcell (trade ck)) 0 () : sProp 𝕄))

/-- All devices' shares regrouped, the names of the invariants chosen once for the machine. -/
theorem regroup :
    (bigSep Finset.univ fun c : Dev nD => iprop((bigSep Finset.univ fun k : Fin 17 => iprop(∃ κ : ℕ, cellInv ER (sched m) κ (kcell (c, k))))
          ∗ seats (F := F) c ∗ (bigSep Finset.univ fun k : Fin 17 => reached ER (kcell (c, k)) 0) ∗ minted (F := F) c) : sProp 𝕄)
      ⊢ bigSep Finset.univ (G' m) := by
  rw [bigSep_sep', bigSep_sep', bigSep_sep', ← bigSep_univ_prod (fun ck : Dev nD × Fin 17 => iprop(∃ κ : ℕ, cellInv ER (sched m) κ (kcell ck))),
    ← bigSep_univ_prod (fun ck : Dev nD × Fin 17 => (reached ER (kcell ck) 0 : sProp 𝕄)), deal]
  iintro ⟨HI, Hat, #HR, Htok⟩
  ihave HK := (BI.bigSep_exists_pi Finset.univ (fun (ck : Dev nD × Fin 17) (κ : ℕ) => (cellInv ER (sched m) κ (kcell ck) : sProp 𝕄))) $$ HI
  icases HK with ⟨%K, #HI⟩
  ihave Hlin := (Entails.of_eq (bigSep_sep' Finset.univ (seats (F := F)) (dealt (F := F))).symm) $$ [Hat Htok]
  · isplitl [Hat] <;> iassumption
  ihave Hrec : records m K $$ []
  · unfold records; isplitl; · iexact HI
    iexact HR
  ihave Hrecs := (BI.bigSep_of_persistent (Finset.univ : Finset (Dev nD)) (records m K)) $$ Hrec
  ihave Hall := (Entails.of_eq (bigSep_sep' Finset.univ (fun _ : Dev nD => records m K) (fun c => iprop(seats (F := F) c ∗ dealt (F := F) c))).symm) $$ [Hrecs Hlin]
  · isplitl [Hrecs] <;> iassumption
  iapply (show (bigSep Finset.univ fun c : Dev nD => iprop(records m K ∗ seats (F := F) c ∗ dealt (F := F) c)) ⊢ (bigSep Finset.univ (G' m) : sProp 𝕄) from
    bigSep_mono fun c _ => show iprop(records m K ∗ seats (F := F) c ∗ dealt (F := F) c) ⊢ iprop(∃ K, records m K ∗ seats (F := F) c ∗ dealt (F := F) c) from by
      iintro H; iexists K; iexact H)
  iexact Hall

/-- The launch's global step. -/
theorem glob : (bigSep Finset.univ fun c => iprop((Pipeline.ownSems0 (Ix := Unit) (Name := ℕ) (U := UU) (Lvl := ℕ) (Val := Elt F) (τ := τ) osem c : sProp 𝕄) ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits at launch -/

omit [FloatOps F] in
theorem cred_one (k : Fin 17) (l : List (Fin 17)) (c : Dev nD) :
    (Pipeline.launchCred (fun d => due d (k :: l)) c : sProp 𝕄)
      ⊢ iprop(Pipeline.launchCred (fun d => due d l) c ∗ cred (tallyAt (kcell (c, k)) () (amt k))) := by
  have h : (fun d : Dev nD => due d (k :: l)) = fun d => (fun d => due d l) d + (fun d => tallyAt (kcell (peer d, k)) () (amt k)) d := rfl
  rw [h, Pipeline.launchCred_add (fun d => due d l) (fun d => tallyAt (kcell (peer d, k)) () (amt k))]
  exact sep_mono_right (Pipeline.launchCred_tallyAt (csem k) peer peer peer_peer peer_peer () (amt k) c)

omit [FloatOps F] in
/-- What the peer owes a device is its credit: one for the barrier, one for each arrival. -/
theorem creds (c : Dev nD) : (Pipeline.launchCred (fun d => due d dues₀) c : sProp 𝕄)
    ⊢ iprop(cred (tallyAt (kcell (c, 0)) () (amt 0)) ∗ cred (tallyAt (kcell (c, 7)) () (amt 7)) ∗ cred (tallyAt (kcell (c, 8)) () (amt 8)) ∗ cred (tallyAt (kcell (c, 9)) () (amt 9)) ∗ cred (tallyAt (kcell (c, 10)) () (amt 10)) ∗ cred (tallyAt (kcell (c, 11)) () (amt 11)) ∗ cred (tallyAt (kcell (c, 12)) () (amt 12))) := by
  iintro H
  ihave H := (cred_one 0 _ c) $$ H
  icases H with ⟨H, H0⟩
  ihave H := (cred_one 7 _ c) $$ H
  icases H with ⟨H, H7⟩
  ihave H := (cred_one 8 _ c) $$ H
  icases H with ⟨H, H8⟩
  ihave H := (cred_one 9 _ c) $$ H
  icases H with ⟨H, H9⟩
  ihave H := (cred_one 10 _ c) $$ H
  icases H with ⟨H, H10⟩
  ihave H := (cred_one 11 _ c) $$ H
  icases H with ⟨H, H11⟩
  ihave H := (cred_one 12 _ c) $$ H
  icases H with ⟨H, H12⟩
  isplitl [H0]; · iexact H0
  isplitl [H7]; · iexact H7
  isplitl [H8]; · iexact H8
  isplitl [H9]; · iexact H9
  isplitl [H10]; · iexact H10
  isplitl [H11]; · iexact H11
  iexact H12

omit [FloatOps F] in
/-- A device's kit from its positions, the tokens dealt to it and its credits. -/
theorem kit_intro (c : Dev nD) :
    iprop(seats (F := F) c ∗ dealt (F := F) c ∗ cred (tallyAt (kcell (c, 0)) () (amt 0)) ∗ cred (tallyAt (kcell (c, 7)) () (amt 7)) ∗ cred (tallyAt (kcell (c, 8)) () (amt 8)) ∗ cred (tallyAt (kcell (c, 9)) () (amt 9)) ∗ cred (tallyAt (kcell (c, 10)) () (amt 10)) ∗ cred (tallyAt (kcell (c, 11)) () (amt 11)) ∗ cred (tallyAt (kcell (c, 12)) () (amt 12))) ⊢ kit (F := F) c := by
  unfold seats dealt kit armed rdy ticket
  rw [bigSep_fin17, bigSep_fin17]
  simp only [show payee c 1 = c from if_neg (by decide), show payee c 2 = c from if_neg (by decide), show payee c 3 = c from if_neg (by decide), show payee c 4 = c from if_neg (by decide), show payee c 5 = c from if_neg (by decide), show payee c 6 = c from if_neg (by decide), show payee c 13 = c from if_neg (by decide), show payee c 14 = c from if_neg (by decide), show payee c 15 = c from if_neg (by decide), show payee c 16 = c from if_neg (by decide), show payee c 0 = peer c from if_pos (by decide), show payee c 7 = peer c from if_pos (by decide), show payee c 8 = peer c from if_pos (by decide), show payee c 9 = peer c from if_pos (by decide), show payee c 10 = peer c from if_pos (by decide), show payee c 11 = peer c from if_pos (by decide), show payee c 12 = peer c from if_pos (by decide)]
  iintro ⟨⟨Hp0, Hp1, Hp2, Hp3, Hp4, Hp5, Hp6, Hp7, Hp8, Hp9, Hp10, Hp11, Hp12, Hp13, Hp14, Hp15, Hp16⟩, ⟨Ht0, Ht1, Ht2, Ht3, Ht4, Ht5, Ht6, Ht7, Ht8, Ht9, Ht10, Ht11, Ht12, Ht13, Ht14, Ht15, Ht16⟩, Hc0, Hc7, Hc8, Hc9, Hc10, Hc11, Hc12⟩
  isplitl [Hp1 Ht1]; · isplitl [Hp1] <;> iassumption
  isplitl [Hp2 Ht2]; · isplitl [Hp2] <;> iassumption
  isplitl [Hp3 Ht3]; · isplitl [Hp3] <;> iassumption
  isplitl [Hp4 Ht4]; · isplitl [Hp4] <;> iassumption
  isplitl [Hp5 Ht5]; · isplitl [Hp5] <;> iassumption
  isplitl [Hp6 Ht6]; · isplitl [Hp6] <;> iassumption
  isplitl [Hp13 Ht13]; · isplitl [Hp13] <;> iassumption
  isplitl [Hp14 Ht14]; · isplitl [Hp14] <;> iassumption
  isplitl [Hp15 Ht15]; · isplitl [Hp15] <;> iassumption
  isplitl [Hp16 Ht16]; · isplitl [Hp16] <;> iassumption
  isplitl [Hp0 Hc0]; · isplitl [Hp0] <;> iassumption
  isplitl [Hp7 Hc7]; · isplitl [Hp7] <;> iassumption
  isplitl [Hp8 Hc8]; · isplitl [Hp8] <;> iassumption
  isplitl [Hp9 Hc9]; · isplitl [Hp9] <;> iassumption
  isplitl [Hp10 Hc10]; · isplitl [Hp10] <;> iassumption
  isplitl [Hp11 Hc11]; · isplitl [Hp11] <;> iassumption
  isplitl [Hp12 Hc12]; · isplitl [Hp12] <;> iassumption
  isplitl [Ht0]; · iexact Ht0
  isplitl [Ht7]; · iexact Ht7
  isplitl [Ht8]; · iexact Ht8
  isplitl [Ht9]; · iexact Ht9
  isplitl [Ht10]; · iexact Ht10
  isplitl [Ht11]; · iexact Ht11
  iexact Ht12

/-! ## The conditions of the launch theorem -/

theorem start_intro (c : Dev nD) :
    iprop(Pipeline.unscopedRestP Pipeline.Prefetch.none cfg0.spec c (fun b => m ((c : Thread nD τ).loc b)) ∗ levAts L lv
        ∗ Pipeline.launchCred (fun d => due d dues₀) c ∗ prngReg c (ρ c) ∗ G' m c)
      ⊢ |={Set.univ}=> iprop((start m c ∗ weights m c) ∗ emp) := by
  iintro ⟨Hrest, Hlev, Hcr, -, HG⟩
  ihave Hc := (creds (F := F) c) $$ Hcr
  ihave Hrest := (Entails.of_eq ((Pipeline.unscopedRestP_none cfg0.spec c _).trans (unscopedRest0_eq c _))) $$ Hrest
  unfold G'
  icases HG with ⟨%K, Hrec, Hp, Ht⟩
  ihave Hk := (kit_intro (F := F) c) $$ [Hp Ht Hc]
  · isplitl [Hp]; · iexact Hp
    isplitl [Ht] <;> iassumption
  imodintro
  isplitl
  · isplitl [Hrec Hk Hlev]
    · unfold start world records
      icases Hrec with ⟨H1, H2⟩
      iexists K
      isplitl [H1 H2 Hlev]
      · isplitl [H1]; · iexact H1
        isplitl [H2] <;> iassumption
      iexact Hk
    unfold weights; iexact Hrest
  · iempintro

theorem phi0_intro (c : Dev nD) :
    iprop((start m c ∗ weights m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch some
  iintro ⟨⟨Hs, HW⟩, -, Hr⟩
  isplitl [Hs]; · iexact Hs
  isplitl [HW] <;> iassumption

theorem phi1_exit (c : Dev nD) :
    (dats m ρ 0 c).Φ (Fin.last cfg0.N) ⊢ iprop((weights m c ∗ unscopedSems0 c) ∗ Pipeline.ownSems0 osem c ∗ Pipeline.scopedRest cfg0.spec c) := by
  rw [show (dats m ρ 0 c).Φ (Fin.last cfg0.N) = Φ₁ m c from rfl, scopedRest0_eq, ownSems_eq, unscopedSems_eq]
  unfold Φ₁ scratch some shut
  iintro ⟨⟨HB, Hz⟩, HW, Hr⟩
  isplitl [HW HB]
  · isplitl [HW] <;> iassumption
  isplitl [Hz] <;> iassumption

/-- The pipeline's own waits are below everything a device owes. -/
theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), SemLoc.dma ((cfg0.win w).sem s)) () ≤ 0 := by
      have h : cellNo (SemLoc.dma ((cfg0.win w).sem s)) = none := by fin_cases w <;> fin_cases s <;> decide
      unfold lv; rw [h]; exact le_rfl
    rcases t with ⟨_ | _, ht⟩
    · exact mayWait_of c _ dues₀ 0 h (by decide)
    · exact mayWait_of c _ [] 0 h (by decide)

/-! ## The run -/

/-- A window's array after the run. -/
def finalA (c : Dev nD) (w : Fin cfg0.W) : Buf (Elt F) ((cfg0.win w).arr.view.loc (c : Thread nD τ)) := (dats m ρ 0 c).arrAt w cfg0.N

/-- What is read of the final memory at a device: its arrays, its weights as they were. -/
def atEnd (c : Dev nD) (s : MemSt nD τ sig (Elt F)) : Prop :=
  (∀ w : Fin cfg0.W, s.mem ((cfg0.win w).arr.view.loc (c : Thread nD τ)) = finalA m ρ c w)
    ∧ s.mem ((c : Thread nD τ).loc main_arg2) = m ((c : Thread nD τ).loc main_arg2)
    ∧ s.mem ((c : Thread nD τ).loc main_arg3) = m ((c : Thread nD τ).loc main_arg3)

omit [FloatOps F] in
theorem weights_read (c : Dev nD) (s' : Phys nD τ sig (Elt F)) :
    iprop(weights m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold weights
  iintro ⟨⟨H2, H3⟩, HSI⟩
  icombine HSI H2 gives %h2
  icombine HSI H3 gives %h3
  isplitr
  · ipureintro; exact ⟨Buf.eq_of_forall_mem_univ h2, Buf.eq_of_forall_mem_univ h3⟩
  · iexact HSI

set_option maxHeartbeats 800000 in
/-- The kernel on the mesh of sixteen devices, from any memory with its counters at zero: every fair execution ends, the
    arrays at the contents computed, the weights unchanged, and every semaphore at zero. -/
theorem run_main : θ_run defs (onTc (τ := τ) (main (F := F))) (s₀ m ρ) (fun r => (∀ c, atEnd m ρ c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => due d dues₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := fun c => iprop(start m c ∗ weights m c)) (Y := fun c => iprop(weights m c ∗ unscopedSems0 c)) (Z := fun _ => iprop(emp))
    (hX := start_intro m ρ) (hin := phi0_intro m ρ) (hout := phi1_exit m ρ)
    (QY := fun c s => (s.mem ((c : Thread nD τ).loc main_arg2) = m ((c : Thread nD τ).loc main_arg2)
        ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨HW, Hu⟩, -, HSI⟩
      ihave H := (weights_read m c s') $$ [HW HSI]
      · isplitl [HW] <;> iassumption
      icases H with ⟨%hW, HSI⟩
      imod (Pipeline.unscopedSems0_read (X := unscopedSems0 c) (c := c) fupd_intro s') $$ [Hu HSI] with ⟨%hS, HSI⟩
      · isplitl [Hu] <;> iassumption
      imodintro
      isplitr; · ipureintro; exact ⟨hW, hS⟩
      iexact HSI)
    (hQ := fun _ h hs => ⟨fun c => ⟨fun w => (h c).1 w, (h c).2.2.1⟩, sem_eq_zero hs fun c => (h c).2.2.2⟩)

/-- The tokens and the assignments after the run are those of the launch. -/
theorem finalA_x (c : Dev nD) : finalA m ρ c (0 : Fin 3) = m ((c : Thread nD τ).loc main_arg0) := (dats (F := F) m ρ 0 c).arrAt_in (0 : Fin 3) rfl _
theorem finalA_a (c : Dev nD) : finalA m ρ c (1 : Fin 3) = m ((c : Thread nD τ).loc main_arg1) := (dats (F := F) m ρ 0 c).arrAt_in (1 : Fin 3) rfl _

/-- The result array, read through its one block, is the value computed. -/
theorem finalA_o (c : Dev nD) : (win0_2.blk (0 : Fin 1)).view.read (Elt F) (finalA m ρ c (2 : Fin 3)) = outv m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Cert.Exchange
end
-- ==== Proof.Frames.lean ====
/-
# The frames of the three programs

`KernelIdeal` is `Kernel`'s own text: the run of Proof/Launch.lean, at the floats of each, is the frame of both.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

set_option maxRecDepth 10000

noncomputable section

namespace Cert.Exchange

open Cert.KernelIdeal Cert.KernelIdeal.Gen
open Idealize.ShloMosaic Idealize.SL.Sem

variable {F : FTy → Type} [FloatOps F]

/-- The run read at the argument arrays and the counters. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 3)).trans (finalA_x m ρ c), ((h.1 c).1 (1 : Fin 3)).trans (finalA_a m ρ c),
    (h.1 c).2.1, (h.1 c).2.2⟩, h.2⟩) (run_main m ρ)

/-- The two programs call the same body, -/
theorem bodies_eq : @Cert.Kernel.defs₀ F _ _ = @Cert.KernelIdeal.defs₀ F _ _ :=
  congrArg Defs.onTc (funext fun l => by fin_cases l; funext ⟨t, s⟩; rfl)
/-- and so have the same table of functions. -/
theorem tables_eq : @Cert.Kernel.defs F _ _ = @Cert.KernelIdeal.defs F _ _ := by
  unfold Cert.Kernel.defs Cert.KernelIdeal.defs
  rw [bodies_eq]
  rfl

theorem frame_Kernel : Cert.quiescent_Kernel := fun m ρ _ => by
  have h := run_frame (F := Bits) m ρ
  rw [← tables_eq] at h
  exact h

theorem frame_KernelIdeal : Cert.quiescent_KernelIdeal := fun m ρ _ => run_frame (F := Ideal) m ρ

/-- The reference is one device's host program and declares no semaphore. -/
theorem frame_ReferenceIdeal : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

end Cert.Exchange

end
-- ==== Proof.Slots.lean ====
/-
# Packing marked tokens into slots and unpacking them again

Of `n` tokens some are marked. The marked ones take the slots `0, 1, 2, …` in their order. A row of the buffer is
the sum over the tokens of the 0/1 word «this token sits in this slot» times the token; and a result is unpacked by the
sum over the slots of the same word times the slot's result. If there are no more marked tokens than slots, packing,
any function of a row, and unpacking together give the function of the token where it is marked, and 0 where it is not.
Over the extended reals nothing need be finite, since `0 * x = 0` there for every `x`.
-/
module

public import Idealize.ShloMosaic.Lib.Pointwise

@[expose] public section

noncomputable section

namespace Cert.Exchange

open Idealize.ShloMosaic

section Ranks

variable {n : ℕ} (p : Fin n → Prop) [DecidablePred p]

/-- How many marked tokens there are up to and including `t`. -/
def rank (t : Fin n) : ℕ := (Finset.univ.filter fun k => k ≤ t ∧ p k).card

variable {p}

/-- A marked token counts itself. -/
theorem rank_pos {t : Fin n} (h : p t) : 0 < rank p t :=
  Finset.card_pos.2 ⟨t, by simp [h]⟩

/-- No rank exceeds the number of marked tokens. -/
theorem rank_le (t : Fin n) : rank p t ≤ (Finset.univ.filter p).card :=
  Finset.card_le_card fun k hk => by simp at hk ⊢; exact hk.2

/-- A rank is at most the number of tokens. -/
theorem rank_le_card (t : Fin n) : rank p t ≤ n :=
  (Finset.card_le_univ _).trans_eq (Fintype.card_fin n)

/-- A later marked token has a greater rank. -/
theorem rank_lt {t u : Fin n} (h : t < u) (hu : p u) : rank p t < rank p u := by
  refine Finset.card_lt_card (Finset.ssubset_iff_of_subset ?_ |>.2 ⟨u, by simp [hu], by simp [h]⟩)
  intro k hk
  simp at hk ⊢
  exact ⟨hk.1.trans h.le, hk.2⟩

/-- Two marked tokens of one rank are one token. -/
theorem rank_inj {t u : Fin n} (ht : p t) (hu : p u) (h : rank p t = rank p u) : t = u := by
  rcases lt_trichotomy t u with g | g | g
  · exact absurd h (rank_lt g hu).ne
  · exact g
  · exact absurd h (rank_lt g ht).ne'

variable (p)

/-- The word 1 where token `t` is marked and sits in slot `s`, else 0. -/
def sits (s : ℕ) (t : Fin n) : EReal := if p t ∧ rank p t = s + 1 then 1 else 0

variable {p}

/-- The row of the slot where a marked token sits is that token. -/
theorem row_of_sits {s : ℕ} {t : Fin n} (h : p t) (hs : rank p t = s + 1) (x : Fin n → EReal) :
    ∑ u, sits p s u * x u = x t := by
  rw [Finset.sum_eq_single t]
  · rw [sits, if_pos ⟨h, hs⟩, one_mul]
  · intro u _ hu
    rw [sits, if_neg, zero_mul]
    exact fun g => hu (rank_inj g.1 h (g.2.trans hs.symm))
  · exact fun g => absurd (Finset.mem_univ t) g

/-- Packing, a function of each row, and unpacking: the function of the token if it is marked, else 0. -/
theorem unpack_pack {C d : ℕ} (hC : (Finset.univ.filter p).card ≤ C) (x : Fin n → Fin d → EReal)
    (G : (Fin d → EReal) → EReal) (t : Fin n) :
    ∑ s : Fin C, sits p s t * G (fun j => ∑ u, sits p s u * x u j) = if p t then G (x t) else 0 := by
  by_cases h : p t
  · have hr : 0 < rank p t := rank_pos h
    have hl : rank p t ≤ C := (rank_le t).trans hC
    rw [if_pos h, Finset.sum_eq_single (⟨rank p t - 1, by omega⟩ : Fin C)]
    · have hs : rank p t = rank p t - 1 + 1 := by omega
      rw [sits, if_pos ⟨h, hs⟩, one_mul]
      exact congrArg G (funext fun j => row_of_sits h hs fun u => x u j)
    · intro s _ hs
      rw [sits, if_neg, zero_mul]
      rintro ⟨-, g⟩
      exact hs (Fin.ext (by simp; omega))
    · exact fun g => absurd (Finset.mem_univ _) g
  · rw [if_neg h]
    exact Finset.sum_eq_zero fun s _ => by rw [sits, if_neg fun g => h g.1, zero_mul]

/-- The product of the lower triangle of ones with the column of marks holds the ranks. -/
theorem sum_marks (t : Fin n) :
    ∑ k, (if k ≤ t then (1 : EReal) else 0) * (if p k then (1 : EReal) else 0) = ((rank p t : ℝ) : EReal) := by
  have e : ∀ k : Fin n, (if k ≤ t then (1 : EReal) else 0) * (if p k then (1 : EReal) else 0)
      = if k ≤ t ∧ p k then 1 else 0 := fun k => by
    by_cases h : k ≤ t <;> by_cases g : p k <;> simp [h, g]
  rw [Finset.sum_congr rfl fun k _ => e k, Finset.sum_boole, rank]
  rfl

end Ranks

/-! ## The words of the program -/

/-- The word of a small number, read signed, is the number. -/
theorem small_toInt (s : ℕ) (hs : s < 1024) : (BitVec.ofNat 32 s).toInt = s := by
  rw [BitVec.toInt_eq_toNat_of_lt (by rw [BitVec.toNat_ofNat]; omega), BitVec.toNat_ofNat, Nat.mod_eq_of_lt (by omega)]

/-- A comparison's bit, widened and made a float, is 1 where the words are equal and 0 where not. -/
theorem float_eq_bit (a b : BitVec 32) :
    FloatOps.sitofp (F := Ideal) .f32 (BitVec.setWidth 32 (IntOp.cmpi .eq a b)) = if a = b then (1 : EReal) else 0 := by
  show (((BitVec.setWidth 32 (BitVec.ofBool (a == b))).toInt : ℝ) : EReal) = _
  by_cases h : a = b
  · simp [h]
  · rw [if_neg h, beq_false_of_ne h]
    simp

/-- The same of the comparison of two small numbers by their order. -/
theorem float_ge_bit (t k : Fin 1024) :
    FloatOps.sitofp (F := Ideal) .f32 (BitVec.setWidth 32 (IntOp.cmpi .sge (BitVec.ofNat 32 t.val) (BitVec.ofNat 32 k.val)))
      = if k ≤ t then (1 : EReal) else 0 := by
  have e : IntOp.cmpi .sge (BitVec.ofNat 32 t.val) (BitVec.ofNat 32 k.val) = BitVec.ofBool (decide (k ≤ t)) := by
    show BitVec.ofBool (BitVec.sle (BitVec.ofNat 32 k.val) (BitVec.ofNat 32 t.val)) = _
    have ht := t.isLt
    have hk := k.isLt
    refine congrArg BitVec.ofBool (decide_eq_decide.2 ?_)
    rw [small_toInt _ (by omega), small_toInt _ (by omega)]
    exact Int.ofNat_le
  rw [e]
  show (((BitVec.setWidth 32 (BitVec.ofBool (decide (k ≤ t)))).toInt : ℝ) : EReal) = _
  by_cases h : k ≤ t
  · simp [h]
  · simp [h]

/-- A small number less one, made an integer word, is that integer. -/
theorem word_of_pred (r : ℕ) (hr : r ≤ 1024) :
    FloatOps.fptosi (F := Ideal) (φ := .f32) 32 (((r : ℝ) : EReal) - 1) = BitVec.ofInt 32 ((r : ℤ) - 1) := by
  have e : (((r : ℝ) : EReal) - 1) = ((((r : ℤ) - 1 : ℤ) : ℝ) : EReal) := by
    rw [Int.cast_sub, EReal.coe_sub]
    simp
  show Ideal.fptosi 32 _ = _
  rw [Ideal.fptosi, e, Ideal.toIntClamped_coe, Int.floor_intCast, Int.ceil_intCast, ite_self]
  congr 1
  omega

/-- That word is the word of slot `s` exactly when the number is `s + 1`. -/
theorem word_eq_slot (r : ℕ) (hr : r ≤ 1024) (s : ℕ) (hs : s < 1024) :
    BitVec.ofInt 32 ((r : ℤ) - 1) = BitVec.ofNat 32 s ↔ r = s + 1 := by
  constructor
  · intro h
    have g := congrArg BitVec.toInt h
    rw [BitVec.toInt_ofInt, small_toInt s hs, Int.bmod_eq_of_le (by omega) (by omega)] at g
    omega
  · rintro rfl
    rw [← BitVec.ofInt_natCast]
    congr 1
    omega

end Cert.Exchange

end
-- ==== Proof.Points.lean ====
/-
# The contents of the exchange over the extended reals, element by element

`marked m c b` says which tokens of device `c` are assigned to the expert of its column `b`: columns 0 and 1 are its own
two experts, columns 2 and 3 the peer's. Every block of the exchange is read at an index: the marks and the places, the
packed tokens, the results of the two layers, and at last the sum that the device stores.
-/
module

public import proofs.«01_k».proof.Proof.Protocol
public import proofs.«01_k».proof.Proof.Slots

@[expose] public section

set_option maxRecDepth 16384

noncomputable section

namespace Cert.Exchange

open Idealize.ShloMosaic Idealize.SL.Sem
open Cert.KernelIdeal Cert.KernelIdeal.Gen

variable (m : (ℓ : Loc nD τ sig) → Buf (Elt Ideal) ℓ) (c : Dev nD)

/-- The expert of device `c`'s column `b`. -/
def expert (c : Dev nD) (b : Fin 4) : ℕ :=
  if b.val < 2 then 2 * (c.val / 4 % 2) + b.val else 2 * (1 - c.val / 4 % 2) + b.val - 2

/-- The program computes a column's expert from the device's number. -/
theorem expert_word (c : Dev nD) (b : Fin 4) :
    Scalar.select (IntOp.cmpi CmpIPredicate.slt (BitVec.ofNat 32 b.val) 2#32)
      (IntOp.addi (Scalar.muli (2#32) (Scalar.remsi (Scalar.divsi (dword c) 4#32) 2#32)) (BitVec.ofNat 32 b.val))
      (IntOp.subi
        (IntOp.addi (Scalar.muli (2#32) (Scalar.subi (1#32) (Scalar.remsi (Scalar.divsi (dword c) 4#32) 2#32)))
          (BitVec.ofNat 32 b.val)) 2#32) = BitVec.ofNat 32 (expert c b) := by
  revert c b
  decide

/-- The tokens of `c` that are assigned to the expert of column `b`. -/
def marked (b : Fin 4) (t : Fin 1024) : Prop := ain m c (ix2 t 0) = BitVec.ofNat 32 (expert c b)

instance (b : Fin 4) : DecidablePred (marked m c b) := fun t => inferInstanceAs (Decidable (_ = _))

/-- The tokens as the products take them are the tokens. -/
theorem xb_at (t d : Fin 1024) : xb m c (ix2 t d) = xin m c (ix2 t d) := by
  pointwise [xb, k0_pay1]

/-- A mark is 1 at a token of the column's expert and 0 elsewhere. -/
theorem hot_at (t : Fin 1024) (b : Fin 4) : hot m c (ix2 t b) = if marked m c b t then (1 : EReal) else 0 := by
  pointwise [hot, k0_pay2]
  rw [float_eq_bit, expert_word]
  rfl

/-- A place is the rank of the token among the column's, less one. -/
theorem place_at (t : Fin 1024) (b : Fin 4) :
    place m c (ix2 t b) = BitVec.ofInt 32 ((rank (marked m c b) t : ℤ) - 1) := by
  rw [← word_of_pred _ (rank_le_card t), ← sum_marks]
  pointwise [place, k0_pay3]
  refine congrArg (fun s : EReal => FloatOps.fptosi (F := Ideal) (φ := .f32) 32 (s - 1)) ?_
  exact Finset.sum_congr rfl fun k _ => by
    rw [float_ge_bit]
    exact congrArg _ (hot_at m c k b)

/-- The word «token `t` has the mark `b` and its place is slot `s`», as the program forms it. -/
theorem sits_word (t : Fin 1024) (b : Fin 4) (s : Fin 288) :
    FloatOps.sitofp (F := Ideal) .f32 (BitVec.setWidth 32 (IntOp.cmpi .eq (place m c (ix2 t b)) (BitVec.ofNat 32 s.val)))
      * hot m c (ix2 t b) = sits (marked m c b) s t := by
  rw [float_eq_bit, hot_at, place_at, sits]
  simp only [word_eq_slot _ (rank_le_card t) s.val (by have := s.isLt; omega)]
  by_cases h : marked m c b t <;> by_cases g : rank (marked m c b) t = s.val + 1 <;> simp [h, g]

/-- Which own token sits in which slot of the first own expert, -/
theorem own0_at (t : Fin 1024) (s : Fin 288) : own0 m c (ix2 t s) = sits (marked m c 0) s t := by
  rw [← sits_word]
  pointwise [own0, k0_pay8, slots]

/-- of the second own expert, -/
theorem own1_at (t : Fin 1024) (s : Fin 288) : own1 m c (ix2 t s) = sits (marked m c 1) s t := by
  rw [← sits_word]
  pointwise [own1, k0_pay16, slots]

/-- of the peer's first expert, -/
theorem far0_at (t : Fin 1024) (s : Fin 288) : far0 m c (ix2 t s) = sits (marked m c 2) s t := by
  rw [← sits_word]
  pointwise [far0, k0_pay22, slots]

/-- and of the peer's second expert. -/
theorem far1_at (t : Fin 1024) (s : Fin 288) : far1 m c (ix2 t s) = sits (marked m c 3) s t := by
  rw [← sits_word]
  pointwise [far1, k0_pay24, k0_pay23, slots]

/-- A row of packed tokens. -/
def row (b : Fin 4) (s : ℕ) (d : Fin 1024) : EReal := ∑ u, sits (marked m c b) s u * xin m c (ix2 u d)

/-- The tokens sent for the peer's first expert are packed by its marks, -/
theorem toks0_at (s : Fin 288) (d : Fin 1024) : toks0 m c (ix2 s d) = row m c 2 s d := by
  rw [row]
  refine Eq.trans ?_ (Finset.sum_congr rfl fun u _ => congrArg (· * xin m c (ix2 u d)) (sits_word m c u 2 s))
  pointwise [toks0, k0_pay4]
  exact Finset.sum_congr rfl fun u _ => congrArg _ (xb_at m c u d)

/-- and those for its second expert by its. -/
theorem toks1_at (s : Fin 288) (d : Fin 1024) : toks1 m c (ix2 s d) = row m c 3 s d := by
  rw [row]
  refine Eq.trans ?_ (Finset.sum_congr rfl fun u _ => congrArg (· * xin m c (ix2 u d)) (sits_word m c u 3 s))
  pointwise [toks1, k0_pay5, slots]
  exact Finset.sum_congr rfl fun u _ => congrArg _ (xb_at m c u d)

/-- One expert's two layers, of one row. -/
def mlp (A : Vec Ideal S1024x2048 .f32) (B : Vec Ideal S2048x1024 .f32) (j : Fin 1024) (v : Fin 1024 → EReal) : EReal :=
  ∑ f : Fin 2048, max (∑ d : Fin 1024, v d * A (ix2 d f)) 0 * B (ix2 f j)

/-- The rows at an expert: first the own tokens, then the peer's. -/
theorem hid0_at (r : Fin 576) (f : Fin 2048) : hid0 m c (ix2 r f)
    = max (∑ d : Fin 1024, (if h : r.val < 288 then row m c 0 r.val d else row m (peer c) 2 (r.val - 288) d) * wA0 m c (ix2 d f)) 0 := by
  pointwise [hid0, k0_pay9, up0, k0_pay6]
  refine congrArg (max · 0) (Finset.sum_congr rfl fun d _ => congrArg (· * wA0 m c (ix2 d f)) ?_)
  split
  · exact Finset.sum_congr rfl fun u _ => by rw [own0_at, xb_at]
  · exact toks0_at m (peer c) ⟨r.val - 288, _⟩ d

theorem hid1_at (r : Fin 576) (f : Fin 2048) : hid1 m c (ix2 r f)
    = max (∑ d : Fin 1024, (if h : r.val < 288 then row m c 1 r.val d else row m (peer c) 3 (r.val - 288) d) * wA1 m c (ix2 d f)) 0 := by
  pointwise [hid1, k0_pay17, up1, k0_pay14]
  refine congrArg (max · 0) (Finset.sum_congr rfl fun d _ => congrArg (· * wA1 m c (ix2 d f)) ?_)
  split
  · exact Finset.sum_congr rfl fun u _ => by rw [own1_at, xb_at]
  · exact toks1_at m (peer c) ⟨r.val - 288, _⟩ d

/-- The own tokens' results at the first own expert, -/
theorem home0_at (s : Fin 288) (j : Fin 1024) : home0 m c (ix2 s j) = mlp (wA0 m c) (wB0 m c) j (row m c 0 s) := by
  have h := s.isLt
  pointwise [home0, k0_pay10, dn0, k0_pay7]
  refine Finset.sum_congr rfl fun f _ => congrArg (· * wB0 m c (ix2 f j)) ?_
  refine (hid0_at m c _ f).trans ?_
  simp [h]

/-- and at the second. -/
theorem home1_at (s : Fin 288) (j : Fin 1024) : home1 m c (ix2 s j) = mlp (wA1 m c) (wB1 m c) j (row m c 1 s) := by
  have h := s.isLt
  pointwise [home1, k0_pay18, dn1, k0_pay15]
  refine Finset.sum_congr rfl fun f _ => congrArg (· * wB1 m c (ix2 f j)) ?_
  refine (hid1_at m c _ f).trans ?_
  simp [h]

/-- The peer's tokens' results that are sent back, quarter by quarter. -/
theorem back0_at (s : Fin 144) (j : Fin 1024) : back0 m c (ix2 s j) = mlp (wA0 m c) (wB0 m c) j (row m (peer c) 2 s) := by
  pointwise [back0, k0_pay12, k0_pay11, dn0, k0_pay7]
  refine Finset.sum_congr rfl fun f _ => congrArg (· * wB0 m c (ix2 f j)) ?_
  refine (hid0_at m c _ f).trans ?_
  simp

theorem back1_at (s : Fin 144) (j : Fin 1024) :
    back1 m c (ix2 s j) = mlp (wA0 m c) (wB0 m c) j (row m (peer c) 2 (144 + s.val)) := by
  pointwise [back1, k0_pay13, dn0, k0_pay7]
  refine Finset.sum_congr rfl fun f _ => congrArg (· * wB0 m c (ix2 f j)) ?_
  refine (hid0_at m c _ f).trans ?_
  simp only [show ¬ 432 + s.val < 288 by omega, ↓reduceDIte, show 432 + s.val - 288 = 144 + s.val by omega]

theorem back2_at (s : Fin 144) (j : Fin 1024) : back2 m c (ix2 s j) = mlp (wA1 m c) (wB1 m c) j (row m (peer c) 3 s) := by
  pointwise [back2, k0_pay19, dn1, k0_pay15]
  refine Finset.sum_congr rfl fun f _ => congrArg (· * wB1 m c (ix2 f j)) ?_
  refine (hid1_at m c _ f).trans ?_
  simp

theorem back3_at (s : Fin 144) (j : Fin 1024) :
    back3 m c (ix2 s j) = mlp (wA1 m c) (wB1 m c) j (row m (peer c) 3 (144 + s.val)) := by
  pointwise [back3, k0_pay20, dn1, k0_pay15]
  refine Finset.sum_congr rfl fun f _ => congrArg (· * wB1 m c (ix2 f j)) ?_
  refine (hid1_at m c _ f).trans ?_
  simp only [show ¬ 432 + s.val < 288 by omega, ↓reduceDIte, show 432 + s.val - 288 = 144 + s.val by omega]

/-- What device `c` stores: over its four columns, the unpacked results. The last two come from the peer. -/
theorem outv_at (t j : Fin 1024) : outv m c (ix2 t j)
    = ∑ s : Fin 288, sits (marked m c 0) s t * mlp (wA0 m c) (wB0 m c) j (row m c 0 s)
      + ∑ s : Fin 288, sits (marked m c 1) s t * mlp (wA1 m c) (wB1 m c) j (row m c 1 s)
      + ∑ s : Fin 288, sits (marked m c 2) s t * mlp (wA0 m (peer c)) (wB0 m (peer c)) j (row m c 2 s)
      + ∑ s : Fin 288, sits (marked m c 3) s t * mlp (wA1 m (peer c)) (wB1 m (peer c)) j (row m c 3 s) := by
  rw [Fin.sum_univ_two_halves 144 144 rfl (fun s : Fin 288 => sits (marked m c 2) s t * _),
    Fin.sum_univ_two_halves 144 144 rfl (fun s : Fin 288 => sits (marked m c 3) s t * _)]
  simp only [← add_assoc]
  pointwise [outv, k0_pay28, k0_pay27, acc2, k0_pay26, acc1, k0_pay25, acc0, k0_pay21]
  simp only [own0_at, own1_at, far0_at, far1_at, home0_at, home1_at, back0_at, back1_at, back2_at, back3_at, peer_peer]

/-- The result of device `c`, when no column has more than 288 tokens: each token's row is that of its expert. -/
theorem outv_value (fit : ∀ b, (Finset.univ.filter (marked m c b)).card ≤ 288) (t j : Fin 1024) : outv m c (ix2 t j)
    = (if marked m c 0 t then mlp (wA0 m c) (wB0 m c) j (fun d => xin m c (ix2 t d)) else 0)
      + (if marked m c 1 t then mlp (wA1 m c) (wB1 m c) j (fun d => xin m c (ix2 t d)) else 0)
      + (if marked m c 2 t then mlp (wA0 m (peer c)) (wB0 m (peer c)) j (fun d => xin m c (ix2 t d)) else 0)
      + (if marked m c 3 t then mlp (wA1 m (peer c)) (wB1 m (peer c)) j (fun d => xin m c (ix2 t d)) else 0) := by
  have h := fun b A B => unpack_pack (fit b) (fun u d => xin m c (ix2 u d)) (mlp A B j) t
  rw [outv_at, ← h, ← h, ← h, ← h]
  rfl

end Cert.Exchange

end
-- ==== Proof.Whole.lean ====
/-
# The reference, and the equation

The reference's result at a row and a column: the two layers of the expert the row is assigned to, or 0 where it is
assigned to none. Device `c` holds block `c / 4 % 2` of each whole array, so its tokens are the reference's rows from
`1024 * (c / 4 % 2)` on, and its experts are `2 * (c / 4 % 2)` and the next.
-/
module

public import proofs.«01_k».proof.Proof.Points
public import proofs.«01_k».proof.Proof.Gen.ReferenceIdeal
public import proofs.«01_k».proof.Proof.Gen.ReferenceIdeal.Run
public import Idealize.ShloMosaic.Lib.Layout

@[expose] public section

set_option maxRecDepth 16384

noncomputable section

namespace Cert.Exchange

open Idealize.ShloMosaic Idealize.SL.Sem

section Reference

variable (X : Vec Ideal ReferenceIdeal.S2048x1024 .f32) (A : Vec Ideal ReferenceIdeal.S2048x1 .i32)
  (W1 : Vec Ideal ReferenceIdeal.S4x1024x2048 .f32) (W2 : Vec Ideal ReferenceIdeal.S4x2048x1024 .f32)

/-- The two layers of expert `e` at row `t` and column `j`. -/
def layers (e : Fin 4) (t : Fin 2048) (j : Fin 1024) : EReal :=
  ∑ f : Fin 2048, max (∑ d : Fin 1024, X (ix2 t d) * W1 (ix3 e d f)) 0 * W2 (ix3 e f j)

/-- The reference's result at row `t` and column `j`. -/
def refAt (t : Fin 2048) (j : Fin 1024) : EReal :=
  if A (ix2 t 0) = 3#32 then layers X W1 W2 3 t j
  else if A (ix2 t 0) = 2#32 then layers X W1 W2 2 t j
  else if A (ix2 t 0) = 1#32 then layers X W1 W2 1 t j
  else if A (ix2 t 0) = 0#32 then layers X W1 W2 0 t j
  else 0

/-- A selection by a comparison's bit is a case distinction. -/
theorem select_eq {α : Type} (a b : BitVec 32) (x y : α) :
    Scalar.select (IntOp.cmpi .eq a b) x y = if a = b then x else y := by
  show (if BitVec.ofBool (a == b) = 1#1 then x else y) = _
  by_cases h : a = b
  · simp [h]
  · rw [beq_false_of_ne h]
    simp [h]

/-- The run of the reference: its result is `refAt` everywhere, its arguments are unchanged. -/
theorem run_ref (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => ∀ c : Dev ReferenceIdeal.nD,
        r.2.mem (c.tc.loc ReferenceIdeal.main_v45) = (fun i => refAt (m (c.tc.loc ReferenceIdeal.main_arg0))
          (m (c.tc.loc ReferenceIdeal.main_arg1)) (m (c.tc.loc ReferenceIdeal.main_arg2)) (m (c.tc.loc ReferenceIdeal.main_arg3)) (i 0) (i 1))
        ∧ r.2.mem (c.tc.loc ReferenceIdeal.main_arg0) = m (c.tc.loc ReferenceIdeal.main_arg0)
        ∧ r.2.mem (c.tc.loc ReferenceIdeal.main_arg1) = m (c.tc.loc ReferenceIdeal.main_arg1)
        ∧ r.2.mem (c.tc.loc ReferenceIdeal.main_arg2) = m (c.tc.loc ReferenceIdeal.main_arg2)
        ∧ r.2.mem (c.tc.loc ReferenceIdeal.main_arg3) = m (c.tc.loc ReferenceIdeal.main_arg3)) := by
  refine (θ_run _ _ _).mono (fun r h c => ?_) (ReferenceIdeal.Value.run (F := Ideal) m ρ)
  obtain ⟨h, h'⟩ := h c
  refine ⟨h.trans (funext fun i => ?_), h'⟩
  obtain ⟨t, j, rfl⟩ : ∃ (t : Fin 2048) (j : Fin 1024), i = ix2 t j := ⟨i 0, i 1, eq_ix2 i⟩
  generalize m (c.tc.loc ReferenceIdeal.main_arg0) = X
  generalize m (c.tc.loc ReferenceIdeal.main_arg1) = A
  generalize m (c.tc.loc ReferenceIdeal.main_arg2) = W1
  generalize m (c.tc.loc ReferenceIdeal.main_arg3) = W2
  pointwise [refAt, layers]
  simp only [select_eq]

end Reference

end Cert.Exchange

end
-- ==== Proof.Meet.lean ====
/-
# The two programs meet

A device's block of each whole array, element by element, and with it the equation: what device `c` stores at its row
`t` is the reference's result at row `1024 * (c / 4 % 2) + t`.
-/
module

public import proofs.«01_k».proof.Proof.Whole

@[expose] public section

set_option maxRecDepth 16384

noncomputable section

namespace Cert.Exchange

open Idealize.ShloMosaic Idealize.SL.Sem
open Cert.KernelIdeal Cert.KernelIdeal.Gen

/-- The second coordinate of device `c`: which block of each array it holds. -/
def half (c : Dev nD) : Fin 2 := ⟨c.val / 4 % 2, by omega⟩

/-- The row of the whole array that is row `t` of a block, -/
def rowOf (y : Fin 2) (t : Fin 1024) : Fin 2048 := ⟨y.val * 1024 + t.val, by omega⟩

/-- and the expert that is expert `k` of a block. -/
def expertOf (y : Fin 2) (k : Fin 2) : Fin 4 := ⟨y.val * 2 + k.val, by omega⟩

theorem block2 (c : Dev nD) : ((Layout.meshBlock (r := 2) [2, 2, 4] ![[1], []] c) 0).val = (half c).val := by
  revert c; decide

theorem block2' (c : Dev nD) : ((Layout.meshBlock (r := 2) [2, 2, 4] ![[1], []] c) 1).val = 0 := by
  revert c; decide

theorem block3 (c : Dev nD) : ((Layout.meshBlock (r := 3) [2, 2, 4] ![[1], [], []] c) 0).val = (half c).val := by
  revert c; decide

theorem block3' (c : Dev nD) : ((Layout.meshBlock (r := 3) [2, 2, 4] ![[1], [], []] c) 1).val = 0 := by
  revert c; decide

theorem block3'' (c : Dev nD) : ((Layout.meshBlock (r := 3) [2, 2, 4] ![[1], [], []] c) 2).val = 0 := by
  revert c; decide

/-- The peer holds the other block. -/
theorem half_peer (c : Dev nD) : half (peer c) = 1 - half c := by revert c; decide

section Blocks

variable {α : Type} (c : Dev nD)

/-- A block of an array of 2048 rows, at an index. -/
theorem rows_at (v : (⟨2, ![2048, 1024]⟩ : Shape).Idx → α) (t d : Fin 1024) :
    Layout.blockN ⟨2, ![1024, 1024]⟩ ⟨2, ![2048, 1024]⟩ (Layout.meshBlock [2, 2, 4] ![[1], []] c) v (by decide) (ix2 t d)
      = v (ix2 (rowOf (half c) t) d) := by
  rw [Layout.blockN_apply]
  refine congrArg v (funext fun a => Fin.ext ?_)
  rw [Layout.TilesN.idx_val]
  match a with
  | 0 => exact congrArg (· * 1024 + t.val) (block2 c)
  | 1 => exact (congrArg (· * 1024 + d.val) (block2' c)).trans (by simp)

theorem col_at (v : (⟨2, ![2048, 1]⟩ : Shape).Idx → α) (t : Fin 1024) :
    Layout.blockN ⟨2, ![1024, 1]⟩ ⟨2, ![2048, 1]⟩ (Layout.meshBlock [2, 2, 4] ![[1], []] c) v (by decide) (ix2 t 0)
      = v (ix2 (rowOf (half c) t) 0) := by
  rw [Layout.blockN_apply]
  refine congrArg v (funext fun a => Fin.ext ?_)
  rw [Layout.TilesN.idx_val]
  match a with
  | 0 => exact congrArg (· * 1024 + t.val) (block2 c)
  | 1 => exact (congrArg (· * 1 + 0) (block2' c)).trans rfl

theorem up_at (v : (⟨3, ![4, 1024, 2048]⟩ : Shape).Idx → α) (k : Fin 2) (d : Fin 1024) (f : Fin 2048) :
    Layout.blockN ⟨3, ![2, 1024, 2048]⟩ ⟨3, ![4, 1024, 2048]⟩ (Layout.meshBlock [2, 2, 4] ![[1], [], []] c) v (by decide) (ix3 k d f)
      = v (ix3 (expertOf (half c) k) d f) := by
  rw [Layout.blockN_apply]
  refine congrArg v (funext fun a => Fin.ext ?_)
  rw [Layout.TilesN.idx_val]
  match a with
  | 0 => exact congrArg (· * 2 + k.val) (block3 c)
  | 1 => exact (congrArg (· * 1024 + d.val) (block3' c)).trans (by simp)
  | 2 => exact (congrArg (· * 2048 + f.val) (block3'' c)).trans (by simp)

theorem dn_at (v : (⟨3, ![4, 2048, 1024]⟩ : Shape).Idx → α) (k : Fin 2) (f : Fin 2048) (j : Fin 1024) :
    Layout.blockN ⟨3, ![2, 2048, 1024]⟩ ⟨3, ![4, 2048, 1024]⟩ (Layout.meshBlock [2, 2, 4] ![[1], [], []] c) v (by decide) (ix3 k f j)
      = v (ix3 (expertOf (half c) k) f j) := by
  rw [Layout.blockN_apply]
  refine congrArg v (funext fun a => Fin.ext ?_)
  rw [Layout.TilesN.idx_val]
  match a with
  | 0 => exact congrArg (· * 2 + k.val) (block3 c)
  | 1 => exact (congrArg (· * 2048 + f.val) (block3' c)).trans (by simp)
  | 2 => exact (congrArg (· * 1024 + j.val) (block3'' c)).trans (by simp)

end Blocks

section Reads

/-- Each of the three staged windows is its whole array: reading it gives the array back. -/
theorem read_x (f : Vec Ideal S1024x1024 .f32) : (win0_0.blk (0 : Fin 1)).view.read (Elt Ideal) f = f :=
  funext fun i => congrArg f (funext fun a => Fin.ext (Pipeline.Window.rect_emb_val_of_index_zero win0_0 (0 : Fin 1) a rfl i))
theorem read_a (f : Vec Ideal S1024x1 .i32) : (win0_1.blk (0 : Fin 1)).view.read (Elt Ideal) f = f :=
  funext fun i => congrArg f (funext fun a => Fin.ext (Pipeline.Window.rect_emb_val_of_index_zero win0_1 (0 : Fin 1) a rfl i))
theorem read_o (f : Vec Ideal S1024x1024 .bf16) : (win0_2.blk (0 : Fin 1)).view.read (Elt Ideal) f = f :=
  funext fun i => congrArg f (funext fun a => Fin.ext (Pipeline.Window.rect_emb_val_of_index_zero win0_2 (0 : Fin 1) a rfl i))

variable (m : (ℓ : Loc nD τ sig) → Buf (Elt Ideal) ℓ) (c : Dev nD)

/-- So the staged tokens and assignments are the arrays as launched. -/
theorem xin_eq (X : Vec Ideal S1024x1024 .f32) (h : m ((c.tc : Thread nD τ).loc main_arg0) = X) : xin m c = X := by
  subst h; exact read_x _
theorem ain_eq (X : Vec Ideal S1024x1 .i32) (h : m ((c.tc : Thread nD τ).loc main_arg1) = X) : ain m c = X := by
  subst h; exact read_a _

/-- A copy of one expert's weights reads that expert's slab. -/
theorem wA0_eq (W : Vec Ideal S2x1024x2048 .f32) (h : m ((c.tc : Thread nD τ).loc main_arg2) = W) (d : Fin 1024) (f : Fin 2048) :
    wA0 m c (ix2 d f) = W (ix3 0 d f) := by
  subst h
  refine (congrFun (Memref.read_squeeze_slice w1A _ _ _ (by decide) _) (ix2 d f)).trans ?_
  pointwise
  refine congrArg (m ((c.tc : Thread nD τ).loc main_arg2)) (funext fun a => Fin.ext ?_)
  match a with
  | 0 => rfl
  | 1 => exact (show 0 + 1 * d.val = d.val by omega)
  | 2 => exact (show 0 + 1 * f.val = f.val by omega)
theorem wA1_eq (W : Vec Ideal S2x1024x2048 .f32) (h : m ((c.tc : Thread nD τ).loc main_arg2) = W) (d : Fin 1024) (f : Fin 2048) :
    wA1 m c (ix2 d f) = W (ix3 1 d f) := by
  subst h
  refine (congrFun (Memref.read_squeeze_slice w1A _ _ _ (by decide) _) (ix2 d f)).trans ?_
  pointwise
  refine congrArg (m ((c.tc : Thread nD τ).loc main_arg2)) (funext fun a => Fin.ext ?_)
  match a with
  | 0 => rfl
  | 1 => exact (show 0 + 1 * d.val = d.val by omega)
  | 2 => exact (show 0 + 1 * f.val = f.val by omega)
theorem wB0_eq (W : Vec Ideal S2x2048x1024 .f32) (h : m ((c.tc : Thread nD τ).loc main_arg3) = W) (f : Fin 2048) (j : Fin 1024) :
    wB0 m c (ix2 f j) = W (ix3 0 f j) := by
  subst h
  refine (congrFun (Memref.read_squeeze_slice w2A _ _ _ (by decide) _) (ix2 f j)).trans ?_
  pointwise
  refine congrArg (m ((c.tc : Thread nD τ).loc main_arg3)) (funext fun a => Fin.ext ?_)
  match a with
  | 0 => rfl
  | 1 => exact (show 0 + 1 * f.val = f.val by omega)
  | 2 => exact (show 0 + 1 * j.val = j.val by omega)
theorem wB1_eq (W : Vec Ideal S2x2048x1024 .f32) (h : m ((c.tc : Thread nD τ).loc main_arg3) = W) (f : Fin 2048) (j : Fin 1024) :
    wB1 m c (ix2 f j) = W (ix3 1 f j) := by
  subst h
  refine (congrFun (Memref.read_squeeze_slice w2A _ _ _ (by decide) _) (ix2 f j)).trans ?_
  pointwise
  refine congrArg (m ((c.tc : Thread nD τ).loc main_arg3)) (funext fun a => Fin.ext ?_)
  match a with
  | 0 => rfl
  | 1 => exact (show 0 + 1 * f.val = f.val by omega)
  | 2 => exact (show 0 + 1 * j.val = j.val by omega)

end Reads

/-! ## The four experts of a token -/

/-- A token is of one expert at most: the sum over the experts, own ones first, is that expert's term. -/
theorem pick_low (a : BitVec 32) (M : Fin 4 → EReal) :
    (if a = BitVec.ofNat 32 0 then M 0 else 0) + (if a = BitVec.ofNat 32 1 then M 1 else 0)
      + (if a = BitVec.ofNat 32 2 then M 2 else 0) + (if a = BitVec.ofNat 32 3 then M 3 else 0)
      = if a = 3#32 then M 3 else if a = 2#32 then M 2 else if a = 1#32 then M 1 else if a = 0#32 then M 0 else 0 := by
  by_cases h3 : a = 3#32
  · subst h3; simp
  by_cases h2 : a = 2#32
  · subst h2; simp
  by_cases h1 : a = 1#32
  · subst h1; simp
  by_cases h0 : a = 0#32
  · subst h0; simp
  simp [h0, h1, h2, h3]

theorem pick_high (a : BitVec 32) (M : Fin 4 → EReal) :
    (if a = BitVec.ofNat 32 2 then M 2 else 0) + (if a = BitVec.ofNat 32 3 then M 3 else 0)
      + (if a = BitVec.ofNat 32 0 then M 0 else 0) + (if a = BitVec.ofNat 32 1 then M 1 else 0)
      = if a = 3#32 then M 3 else if a = 2#32 then M 2 else if a = 1#32 then M 1 else if a = 0#32 then M 0 else 0 := by
  by_cases h3 : a = 3#32
  · subst h3; simp
  by_cases h2 : a = 2#32
  · subst h2; simp
  by_cases h1 : a = 1#32
  · subst h1; simp
  by_cases h0 : a = 0#32
  · subst h0; simp
  simp [h0, h1, h2, h3]

end Cert.Exchange

end
-- ==== Proof.Fits.lean ====
/-
# What the precondition says

The precondition counts, on each device, the tokens that are assigned to each of the four experts, and compares the
counts with 288, the number of slots. Read as a count it bounds every column's marks.
-/
module

public import proofs.«01_k».proof.Proof.Points
public import proofs.«01_k».proof.Pre_fits_KernelIdeal
public import proofs.«01_k».proof.Pre_fits_ReferenceIdeal
public import Idealize.ShloMosaic.Lib.IndicatorCount

@[expose] public section

set_option maxRecDepth 16384

noncomputable section

namespace Cert.Exchange

open Idealize.ShloMosaic Idealize.SL.Sem
open Cert.KernelIdeal Cert.KernelIdeal.Gen

/-- The side conditions of the precondition, over one device's blocks and over the whole arrays. -/
theorem facts_fits : Cert.Pre_fits_KernelIdeal.Facts := by constructor <;> decide
theorem facts_fits_ref : Cert.Pre_fits_ReferenceIdeal.Facts := by constructor <;> decide

/-- Two bits whose conjunction is set are set. -/
theorem both_set (a b : BitVec 1) (h : IntOp.andi a b = 1#1) : a = 1#1 ∧ b = 1#1 := by
  revert a b
  decide

/-- A comparison's bit is set exactly when the words are equal. -/
theorem eq_bit (a b : BitVec 32) : IntOp.cmpi .eq a b = 1#1 ↔ a = b := by
  show BitVec.ofBool (a == b) = 1#1 ↔ _
  by_cases h : a = b
  · simp [h]
  · rw [beq_false_of_ne h]
    simp [h]

/-- A sum of bits that is at most 288 as a word is at most 288 as a count. -/
theorem count_le (a : IVec S1024x1 32) (w : BitVec 32)
    (h : IntOp.cmpi CmpIPredicate.sle
      (Finset.fold IntOp.addi (0#32) (fun k : Fin 1024 × Fin 1 => BitVec.setWidth 32 (IntOp.cmpi CmpIPredicate.eq (a (ix2 k.1 k.2)) w))
        Finset.univ) 288#32 = 1#1) :
    (Finset.univ.filter fun t : Fin 1024 => a (ix2 t 0) = w).card ≤ 288 := by
  rw [IndicatorCount.fold_addi_setWidth_eq_card] at h
  set n := (Finset.univ.filter fun k : Fin 1024 × Fin 1 => IntOp.cmpi CmpIPredicate.eq (a (ix2 k.1 k.2)) w = 1#1).card with hn
  have hle : n ≤ 1024 := (Finset.card_le_univ _).trans_eq (by simp)
  have hs : n ≤ 288 := by
    have g : BitVec.sle (BitVec.ofNat 32 n) 288#32 = true := by
      have e : BitVec.ofBool (BitVec.sle (BitVec.ofNat 32 n) 288#32) = 1#1 := h
      cases hb : BitVec.sle (BitVec.ofNat 32 n) 288#32
      · rw [hb] at e
        exact absurd e (by decide)
      · rfl
    rw [BitVec.sle_eq_decide, decide_eq_true_iff,
      BitVec.toInt_eq_toNat_of_lt (by rw [BitVec.toNat_ofNat]; omega), BitVec.toNat_ofNat, Nat.mod_eq_of_lt (by omega)] at g
    rw [show (288#32).toInt = 288 by decide] at g
    exact_mod_cast g
  refine le_trans ?_ hs
  refine Finset.card_le_card_of_injOn (fun t => (t, 0)) ?_ fun t _ u _ e => (Prod.mk.inj e).1
  intro t ht
  simpa [eq_bit] using ht

/-- Under the precondition no column of a device has more than 288 marks. -/
theorem marks_fit [Cert.Pre_fits_KernelIdeal.Facts] (m : (ℓ : Loc nD τ sig) → Buf (Elt Ideal) ℓ) (c : Dev nD)
    (x : FVec Ideal ⟨2, ![1024, 1024]⟩ .f32) (w1 : FVec Ideal ⟨3, ![2, 1024, 2048]⟩ .f32)
    (w2 : FVec Ideal ⟨3, ![2, 2048, 1024]⟩ .f32)
    (h : Cert.Pre_fits_KernelIdeal.fn (F := Ideal) x (ain m c) w1 w2 = fun _ => 1#1) (b : Fin 4) :
    (Finset.univ.filter (marked m c b)).card ≤ 288 := by
  have h := congrFun h ix0
  pointwise [Cert.Pre_fits_KernelIdeal.fn, Cert.Pre_fits_KernelIdeal.fn_part1] at h
  obtain ⟨h, h3⟩ := both_set _ _ h
  obtain ⟨h, h2⟩ := both_set _ _ h
  obtain ⟨h0, h1⟩ := both_set _ _ h
  have all : ∀ e < 4, (Finset.univ.filter fun t : Fin 1024 => ain m c (ix2 t 0) = BitVec.ofNat 32 e).card ≤ 288 := by
    intro e he
    interval_cases e
    · exact count_le _ _ h0
    · exact count_le _ _ h1
    · exact count_le _ _ h2
    · exact count_le _ _ h3
  exact all (expert c b) (by unfold expert; have := b.isLt; split <;> omega)

end Cert.Exchange

end
-- ==== Proof.Algebraic.lean ====
/-
# The kernel computes the reference

A device's rows are the reference's rows, given that no column of marks overfills its buffer; with the two runs, the
equation of the certificate.
-/
module

public import proofs.«01_k».proof.Proof.Meet
public import proofs.«01_k».proof.Proof.Fits
public import proofs.«01_k».proof.Proof.Frames

@[expose] public section

set_option maxRecDepth 16384

noncomputable section

namespace Cert.Exchange

open Idealize.ShloMosaic Idealize.SL.Sem
open Cert.KernelIdeal Cert.KernelIdeal.Gen

/-- The blocks of four whole arrays that lie on the devices at the launch. -/
structure Split (m : (ℓ : Loc nD τ sig) → Buf (Elt Ideal) ℓ)
    (X : Vec Ideal ⟨2, ![2048, 1024]⟩ .f32) (A : Vec Ideal ⟨2, ![2048, 1]⟩ .i32)
    (W1 : Vec Ideal ⟨3, ![4, 1024, 2048]⟩ .f32) (W2 : Vec Ideal ⟨3, ![4, 2048, 1024]⟩ .f32) : Prop where
  x : ∀ c : Dev nD, m ((c.tc : Thread nD τ).loc main_arg0)
    = Layout.blockN ⟨2, ![1024, 1024]⟩ ⟨2, ![2048, 1024]⟩ (Layout.meshBlock [2, 2, 4] ![[1], []] c) X
  a : ∀ c : Dev nD, m ((c.tc : Thread nD τ).loc main_arg1)
    = Layout.blockN ⟨2, ![1024, 1]⟩ ⟨2, ![2048, 1]⟩ (Layout.meshBlock [2, 2, 4] ![[1], []] c) A
  up : ∀ c : Dev nD, m ((c.tc : Thread nD τ).loc main_arg2)
    = Layout.blockN ⟨3, ![2, 1024, 2048]⟩ ⟨3, ![4, 1024, 2048]⟩ (Layout.meshBlock [2, 2, 4] ![[1], [], []] c) W1
  dn : ∀ c : Dev nD, m ((c.tc : Thread nD τ).loc main_arg3)
    = Layout.blockN ⟨3, ![2, 2048, 1024]⟩ ⟨3, ![4, 2048, 1024]⟩ (Layout.meshBlock [2, 2, 4] ![[1], [], []] c) W2

section Rows

variable {m : (ℓ : Loc nD τ sig) → Buf (Elt Ideal) ℓ}
variable {X : Vec Ideal ⟨2, ![2048, 1024]⟩ .f32} {A : Vec Ideal ⟨2, ![2048, 1]⟩ .i32}
variable {W1 : Vec Ideal ⟨3, ![4, 1024, 2048]⟩ .f32} {W2 : Vec Ideal ⟨3, ![4, 2048, 1024]⟩ .f32}
variable (s : Split m X A W1 W2) (c : Dev nD)
include s

/-- A device's token is a row of the whole array, -/
theorem x_row (t d : Fin 1024) : xin m c (ix2 t d) = X (ix2 (rowOf (half c) t) d) :=
  (congrFun (xin_eq m c _ (s.x c)) (ix2 t d)).trans (rows_at c X t d)
/-- and so is its assignment. -/
theorem a_row (t : Fin 1024) : ain m c (ix2 t 0) = A (ix2 (rowOf (half c) t) 0) :=
  (congrFun (ain_eq m c _ (s.a c)) (ix2 t 0)).trans (col_at c A t)

/-- The two layers at a device's first expert are those of the whole arrays' expert, -/
theorem mlp_first (v : Fin 1024 → EReal) (r : Fin 2048) (hv : ∀ d, v d = X (ix2 r d)) (j : Fin 1024) :
    mlp (wA0 m c) (wB0 m c) j v = layers X W1 W2 (expertOf (half c) 0) r j := by
  unfold mlp layers
  refine Finset.sum_congr rfl fun f _ => ?_
  rw [(wB0_eq m c _ (s.dn c) f j).trans (dn_at c W2 0 f j)]
  refine congrArg (fun z => max z 0 * _) (Finset.sum_congr rfl fun d _ => ?_)
  rw [(wA0_eq m c _ (s.up c) d f).trans (up_at c W1 0 d f), hv d]
/-- and at its second expert likewise. -/
theorem mlp_second (v : Fin 1024 → EReal) (r : Fin 2048) (hv : ∀ d, v d = X (ix2 r d)) (j : Fin 1024) :
    mlp (wA1 m c) (wB1 m c) j v = layers X W1 W2 (expertOf (half c) 1) r j := by
  unfold mlp layers
  refine Finset.sum_congr rfl fun f _ => ?_
  rw [(wB1_eq m c _ (s.dn c) f j).trans (dn_at c W2 1 f j)]
  refine congrArg (fun z => max z 0 * _) (Finset.sum_congr rfl fun d _ => ?_)
  rw [(wA1_eq m c _ (s.up c) d f).trans (up_at c W1 1 d f), hv d]

/-- What a device stores at a row is the reference's result at the row of the whole array. -/
theorem row_eq (fit : ∀ b, (Finset.univ.filter (marked m c b)).card ≤ 288) (t j : Fin 1024) :
    outv m c (ix2 t j) = refAt X A W1 W2 (rowOf (half c) t) j := by
  rw [outv_value m c fit t j]
  have hv := fun d => x_row s c t d
  rw [mlp_first s c _ _ hv, mlp_second s c _ _ hv, mlp_first s (peer c) _ _ hv, mlp_second s (peer c) _ _ hv, half_peer]
  have mark : ∀ (b : Fin 4) (n : ℕ), expert c b = n →
      (marked m c b t ↔ A (ix2 (rowOf (half c) t) 0) = BitVec.ofNat 32 n) := by
    intro b n hn
    unfold marked
    rw [a_row s c t, hn]
  have hh : half c = 0 ∨ half c = 1 := by
    generalize half c = y
    revert y; decide
  rcases hh with h | h
  · have hc : c.val / 4 % 2 = 0 := congrArg Fin.val h
    rw [if_congr (mark 0 0 (by simp [expert, hc])) rfl rfl, if_congr (mark 1 1 (by simp [expert, hc])) rfl rfl,
      if_congr (mark 2 2 (by simp [expert, hc])) rfl rfl, if_congr (mark 3 3 (by simp [expert, hc])) rfl rfl, h]
    exact pick_low (A (ix2 (rowOf 0 t) 0)) (fun e => layers X W1 W2 e (rowOf 0 t) j)
  · have hc : c.val / 4 % 2 = 1 := congrArg Fin.val h
    rw [if_congr (mark 0 2 (by simp [expert, hc])) rfl rfl, if_congr (mark 1 3 (by simp [expert, hc])) rfl rfl,
      if_congr (mark 2 0 (by simp [expert, hc])) rfl rfl, if_congr (mark 3 1 (by simp [expert, hc])) rfl rfl, h]
    exact pick_high (A (ix2 (rowOf 1 t) 0)) (fun e => layers X W1 W2 e (rowOf 1 t) j)

/-- So a device's whole result is its block of the reference's. -/
theorem out_block (fit : ∀ b, (Finset.univ.filter (marked m c b)).card ≤ 288) :
    outv m c = Layout.blockN ⟨2, ![1024, 1024]⟩ ⟨2, ![2048, 1024]⟩ (Layout.meshBlock [2, 2, 4] ![[1], []] c)
      (fun i => refAt X A W1 W2 (i 0) (i 1)) := by
  refine funext fun i => ?_
  rw [eq_ix2 i]
  exact (row_eq s c fit (i 0) (i 1)).trans
    (rows_at c (fun i => refAt X A W1 W2 (i 0) (i 1)) (i 0) (i 1)).symm

end Rows

/-- Where every device's tokens fit, the kernel over the reals leaves each device its block of the reference's result. -/
theorem algebraic_fits [Cert.Pre_fits_KernelIdeal.Facts] : Cert.algebraic_KernelIdeal_ReferenceIdeal_pre_fits_KernelIdeal := by
  intro m g m' g' pre hsplit
  have s : Split m _ _ _ _ := ⟨fun c => (hsplit c).1, fun c => (hsplit c).2.1, fun c => (hsplit c).2.2.1, fun c => (hsplit c).2.2.2⟩
  refine ⟨fun i => refAt _ _ _ _ (i 0) (i 1), (θ_run _ _ _).mono (fun r h c => ?_) (run_main (F := Ideal) m g),
    (θ_run _ _ _).mono (fun r h => h 0) (run_ref m' g')⟩
  have fit := marks_fit m c _ _ _ (by rw [ain_eq m c _ rfl]; exact pre c)
  refine ⟨?_, ((h.1 c).1 (0 : Fin 3)).trans (finalA_x m g c), ((h.1 c).1 (1 : Fin 3)).trans (finalA_a m g c), (h.1 c).2.1, (h.1 c).2.2⟩
  have ho := finalA_o m g c
  rw [read_o] at ho
  exact (((h.1 c).1 (2 : Fin 3)).trans ho).trans (out_block s c fit)

end Cert.Exchange

end
-- ==== Proof.lean ====
/-
# The claims of the certificate
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

set_option maxRecDepth 10000

noncomputable section

namespace Cert.Proof

open Idealize.ShloMosaic Idealize.SL.Sem

/-- Everything that the certificate states. -/
theorem claim : Cert.Claim :=
  haveI := Cert.Exchange.facts_fits
  ⟨Cert.Kernel.Gen.facts, Cert.KernelIdeal.Gen.facts, Cert.ReferenceIdeal.Gen.facts,
    Cert.Exchange.facts_fits, Cert.Exchange.facts_fits_ref,
    Cert.Exchange.frame_Kernel, Cert.Exchange.frame_KernelIdeal, fun m ρ _ => Cert.Exchange.run_frame m ρ,
    Cert.Exchange.frame_ReferenceIdeal, fun m ρ _ => Cert.Exchange.frame_ReferenceIdeal m ρ trivial,
    trivial, Cert.Exchange.algebraic_fits⟩

end Cert.Proof

end
